-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S4096x2048 : Shape := ⟨2, ![4096, 2048]⟩
abbrev S4x256x2048 : Shape := ⟨3, ![4, 256, 2048]⟩
abbrev S4 : Shape := ⟨1, ![4]⟩
abbrev S_ : Shape := ⟨0, ![]⟩
abbrev S256x512 : Shape := ⟨2, ![256, 512]⟩
abbrev S256x2048 : Shape := ⟨2, ![256, 2048]⟩
abbrev S1x256x2048 : Shape := ⟨3, ![1, 256, 2048]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x2048, .f32⟩
  | .local _ .vmem, ⟨0, _⟩ => ⟨S4096x512, .f32⟩
  | .local _ .vmem, ⟨1, _⟩ => ⟨S512x2048, .f32⟩
  | .local _ .vmem, ⟨2, _⟩ => ⟨S4x256x2048, .f32⟩
  | .local _ .vmem, ⟨3, _⟩ => ⟨S4x256x2048, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 3 → Bool
  | ⟨0, _⟩ => true
  | ⟨1, _⟩ => true
  | ⟨2, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 3 26 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v13 : BitVec 32 := Scalar.muli v2 c512_i32
  let v14 : Index := Scalar.indexCast v13
  let c0 : Index := 0#32
  ![v14.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_15 : BitVec 32 := 512#32
  let v23 : BitVec 32 := Scalar.muli v2 c512_i32_15
  let c256_i32 : BitVec 32 := 256#32
  let v24 : BitVec 32 := Scalar.addi v23 c256_i32
  let v25 : Index := Scalar.indexCast v24
  let c0_16 : Index := 0#32
  ![v25.toNat, 0]
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_27 : BitVec 32 := 1#32
  let v34 : BitVec 32 := Scalar.muli v7 c1_i32_27
  let v35 : BitVec 32 := Scalar.addi c0_i32_28 v34
  v35.toNat
def k0_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_37 : BitVec 32 := 1#32
  let v44 : BitVec 32 := Scalar.muli v5 c1_i32_37
  let v45 : BitVec 32 := Scalar.addi c0_i32_38 v44
  v45.toNat
def k0_off3 (d0 : Dev nD) (c0_i32_43 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v54 : BitVec 32 := Scalar.addi v2 c16_i32
  let v55 : BitVec 32 := Scalar.subi v54 c0_i32_43
  let c1_i32_44 : BitVec 32 := 1#32
  let v56 : BitVec 32 := Scalar.subi v55 c1_i32_44
  let c8_i32_45 : BitVec 32 := 8#32
  let v57 : BitVec 32 := Scalar.remsi v56 c8_i32_45
  let c512_i32_49 : BitVec 32 := 512#32
  let v61 : BitVec 32 := Scalar.muli v57 c512_i32_49
  let v62 : Index := Scalar.indexCast v61
  let c0_50 : Index := 0#32
  ![v62.toNat, 0]
def k0_off4 (d0 : Dev nD) (c0_i32_46 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v58 : BitVec 32 := Scalar.addi v2 c0_i32_46
  let c1_i32_47 : BitVec 32 := 1#32
  let v59 : BitVec 32 := Scalar.addi v58 c1_i32_47
  let c8_i32_48 : BitVec 32 := 8#32
  let v60 : BitVec 32 := Scalar.remsi v59 c8_i32_48
  let c512_i32_54 : BitVec 32 := 512#32
  let v68 : BitVec 32 := Scalar.muli v60 c512_i32_54
  let c256_i32_55 : BitVec 32 := 256#32
  let v69 : BitVec 32 := Scalar.addi v68 c256_i32_55
  let v70 : Index := Scalar.indexCast v69
  let c0_56 : Index := 0#32
  ![v70.toNat, 0]
def k0_dev5 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_110 : BitVec 32 := 1#32
  let v116 : BitVec 32 := Scalar.muli v5 c1_i32_110
  let v117 : BitVec 32 := Scalar.addi c0_i32_111 v116
  v117.toNat
def k0_dev6 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_113 : BitVec 32 := 1#32
  let v118 : BitVec 32 := Scalar.muli v7 c1_i32_113
  let v119 : BitVec 32 := Scalar.addi c0_i32_114 v118
  v119.toNat
def k0_dev7 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_119 : BitVec 32 := 1#32
  let v120 : BitVec 32 := Scalar.muli v7 c1_i32_119
  let v121 : BitVec 32 := Scalar.addi c0_i32_120 v120
  v121.toNat
def k0_dev8 (d0 : Dev nD) : Nat :=
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_129 : BitVec 32 := 1#32
  let v130 : BitVec 32 := Scalar.muli v5 c1_i32_129
  let v131 : BitVec 32 := Scalar.addi c0_i32_130 v130
  v131.toNat
def k0_dev9 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_203 : BitVec 32 := 1#32
  let v202 : BitVec 32 := Scalar.muli v5 c1_i32_203
  let v203 : BitVec 32 := Scalar.addi c0_i32_204 v202
  v203.toNat
def k0_dev10 (d0 : Dev nD) : Nat :=
  let c0_i32_207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_206 : BitVec 32 := 1#32
  let v204 : BitVec 32 := Scalar.muli v7 c1_i32_206
  let v205 : BitVec 32 := Scalar.addi c0_i32_207 v204
  v205.toNat
def k0_dev11 (d0 : Dev nD) : Nat :=
  let c0_i32_212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_211 : BitVec 32 := 1#32
  let v206 : BitVec 32 := Scalar.muli v7 c1_i32_211
  let v207 : BitVec 32 := Scalar.addi c0_i32_212 v206
  v207.toNat
def k0_dev12 (d0 : Dev nD) : Nat :=
  let c0_i32_222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_221 : BitVec 32 := 1#32
  let v216 : BitVec 32 := Scalar.muli v5 c1_i32_221
  let v217 : BitVec 32 := Scalar.addi c0_i32_222 v216
  v217.toNat
def k0_dev13 (d0 : Dev nD) : Nat :=
  let c0_i32_296 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_295 : BitVec 32 := 1#32
  let v288 : BitVec 32 := Scalar.muli v5 c1_i32_295
  let v289 : BitVec 32 := Scalar.addi c0_i32_296 v288
  v289.toNat
def k0_dev14 (d0 : Dev nD) : Nat :=
  let c0_i32_299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_298 : BitVec 32 := 1#32
  let v290 : BitVec 32 := Scalar.muli v7 c1_i32_298
  let v291 : BitVec 32 := Scalar.addi c0_i32_299 v290
  v291.toNat
def k0_dev15 (d0 : Dev nD) : Nat :=
  let c0_i32_309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_308 : BitVec 32 := 1#32
  let v292 : BitVec 32 := Scalar.muli v7 c1_i32_308
  let v293 : BitVec 32 := Scalar.addi c0_i32_309 v292
  v293.toNat
def k0_dev16 (d0 : Dev nD) : Nat :=
  let c0_i32_319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_318 : BitVec 32 := 1#32
  let v302 : BitVec 32 := Scalar.muli v5 c1_i32_318
  let v303 : BitVec 32 := Scalar.addi c0_i32_319 v302
  v303.toNat
def k0_dev17 (d0 : Dev nD) : Nat :=
  let c0_i32_394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_393 : BitVec 32 := 1#32
  let v374 : BitVec 32 := Scalar.muli v5 c1_i32_393
  let v375 : BitVec 32 := Scalar.addi c0_i32_394 v374
  v375.toNat
def k0_dev18 (d0 : Dev nD) : Nat :=
  let c0_i32_397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_396 : BitVec 32 := 1#32
  let v376 : BitVec 32 := Scalar.muli v7 c1_i32_396
  let v377 : BitVec 32 := Scalar.addi c0_i32_397 v376
  v377.toNat
def k0_dev19 (d0 : Dev nD) : Nat :=
  let c0_i32_407 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_406 : BitVec 32 := 1#32
  let v378 : BitVec 32 := Scalar.muli v7 c1_i32_406
  let v379 : BitVec 32 := Scalar.addi c0_i32_407 v378
  v379.toNat
def k0_dev20 (d0 : Dev nD) : Nat :=
  let c0_i32_417 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_416 : BitVec 32 := 1#32
  let v388 : BitVec 32 := Scalar.muli v5 c1_i32_416
  let v389 : BitVec 32 := Scalar.addi c0_i32_417 v388
  v389.toNat
def k0_dev21 (d0 : Dev nD) : Nat :=
  let c0_i32_491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_490 : BitVec 32 := 1#32
  let v460 : BitVec 32 := Scalar.muli v5 c1_i32_490
  let v461 : BitVec 32 := Scalar.addi c0_i32_491 v460
  v461.toNat
def k0_dev22 (d0 : Dev nD) : Nat :=
  let c0_i32_494 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_493 : BitVec 32 := 1#32
  let v462 : BitVec 32 := Scalar.muli v7 c1_i32_493
  let v463 : BitVec 32 := Scalar.addi c0_i32_494 v462
  v463.toNat
def k0_dev23 (d0 : Dev nD) : Nat :=
  let c0_i32_504 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_503 : BitVec 32 := 1#32
  let v464 : BitVec 32 := Scalar.muli v7 c1_i32_503
  let v465 : BitVec 32 := Scalar.addi c0_i32_504 v464
  v465.toNat
def k0_dev24 (d0 : Dev nD) : Nat :=
  let c0_i32_514 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_513 : BitVec 32 := 1#32
  let v474 : BitVec 32 := Scalar.muli v5 c1_i32_513
  let v475 : BitVec 32 := Scalar.addi c0_i32_514 v474
  v475.toNat
def k0_dev25 (d0 : Dev nD) : Nat :=
  let c0_i32_588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_587 : BitVec 32 := 1#32
  let v546 : BitVec 32 := Scalar.muli v5 c1_i32_587
  let v547 : BitVec 32 := Scalar.addi c0_i32_588 v546
  v547.toNat
def k0_dev26 (d0 : Dev nD) : Nat :=
  let c0_i32_591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_590 : BitVec 32 := 1#32
  let v548 : BitVec 32 := Scalar.muli v7 c1_i32_590
  let v549 : BitVec 32 := Scalar.addi c0_i32_591 v548
  v549.toNat
def k0_dev27 (d0 : Dev nD) : Nat :=
  let c0_i32_601 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_600 : BitVec 32 := 1#32
  let v550 : BitVec 32 := Scalar.muli v7 c1_i32_600
  let v551 : BitVec 32 := Scalar.addi c0_i32_601 v550
  v551.toNat
def k0_dev28 (d0 : Dev nD) : Nat :=
  let c0_i32_611 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_610 : BitVec 32 := 1#32
  let v560 : BitVec 32 := Scalar.muli v5 c1_i32_610
  let v561 : BitVec 32 := Scalar.addi c0_i32_611 v560
  v561.toNat
def k0_off5 (d0 : Dev nD) (c6_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_616 : BitVec 32 := 16#32
  let v570 : BitVec 32 := Scalar.addi v2 c16_i32_616
  let v571 : BitVec 32 := Scalar.subi v570 c6_i32
  let c1_i32_617 : BitVec 32 := 1#32
  let v572 : BitVec 32 := Scalar.subi v571 c1_i32_617
  let c8_i32_618 : BitVec 32 := 8#32
  let v573 : BitVec 32 := Scalar.remsi v572 c8_i32_618
  let c512_i32_673 : BitVec 32 := 512#32
  let v646 : BitVec 32 := Scalar.muli v573 c512_i32_673
  let c0_i32_678 : BitVec 32 := 0#32
  ![v646.toNat, 0]
def k0_off6 (d0 : Dev nD) (c6_i32_619 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v574 : BitVec 32 := Scalar.addi v2 c6_i32_619
  let c1_i32_620 : BitVec 32 := 1#32
  let v575 : BitVec 32 := Scalar.addi v574 c1_i32_620
  let c8_i32_621 : BitVec 32 := 8#32
  let v576 : BitVec 32 := Scalar.remsi v575 c8_i32_621
  let c512_i32_674 : BitVec 32 := 512#32
  let v647 : BitVec 32 := Scalar.muli v576 c512_i32_674
  let c256_i32_675 : BitVec 32 := 256#32
  let v648 : BitVec 32 := Scalar.addi v647 c256_i32_675
  let c0_i32_683 : BitVec 32 := 0#32
  ![v648.toNat, 0]
def k0_dev29 (d0 : Dev nD) : Nat :=
  let c0_i32_706 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_705 : BitVec 32 := 1#32
  let v671 : BitVec 32 := Scalar.muli v5 c1_i32_705
  let v672 : BitVec 32 := Scalar.addi c0_i32_706 v671
  v672.toNat
def k0_dev30 (d0 : Dev nD) : Nat :=
  let c0_i32_709 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_708 : BitVec 32 := 1#32
  let v673 : BitVec 32 := Scalar.muli v7 c1_i32_708
  let v674 : BitVec 32 := Scalar.addi c0_i32_709 v673
  v674.toNat
def k0_dev31 (d0 : Dev nD) : Nat :=
  let c0_i32_719 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_718 : BitVec 32 := 1#32
  let v675 : BitVec 32 := Scalar.muli v7 c1_i32_718
  let v676 : BitVec 32 := Scalar.addi c0_i32_719 v675
  v676.toNat
def k0_dev32 (d0 : Dev nD) : Nat :=
  let c0_i32_729 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_728 : BitVec 32 := 1#32
  let v685 : BitVec 32 := Scalar.muli v5 c1_i32_728
  let v686 : BitVec 32 := Scalar.addi c0_i32_729 v685
  v686.toNat
def k0_dev33 (d0 : Dev nD) : Nat :=
  let c0_i32_803 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_802 : BitVec 32 := 1#32
  let v753 : BitVec 32 := Scalar.muli v5 c1_i32_802
  let v754 : BitVec 32 := Scalar.addi c0_i32_803 v753
  v754.toNat
def k0_dev34 (d0 : Dev nD) : Nat :=
  let c0_i32_806 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_805 : BitVec 32 := 1#32
  let v755 : BitVec 32 := Scalar.muli v7 c1_i32_805
  let v756 : BitVec 32 := Scalar.addi c0_i32_806 v755
  v756.toNat
def k0_dev35 (d0 : Dev nD) : Nat :=
  let c0_i32_816 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_815 : BitVec 32 := 1#32
  let v757 : BitVec 32 := Scalar.muli v7 c1_i32_815
  let v758 : BitVec 32 := Scalar.addi c0_i32_816 v757
  v758.toNat
def k0_dev36 (d0 : Dev nD) : Nat :=
  let c0_i32_826 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_825 : BitVec 32 := 1#32
  let v767 : BitVec 32 := Scalar.muli v5 c1_i32_825
  let v768 : BitVec 32 := Scalar.addi c0_i32_826 v767
  v768.toNat
def k0_dev37 (d0 : Dev nD) : Nat :=
  let c0_i32_901 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_900 : BitVec 32 := 1#32
  let v835 : BitVec 32 := Scalar.muli v5 c1_i32_900
  let v836 : BitVec 32 := Scalar.addi c0_i32_901 v835
  v836.toNat
def k0_dev38 (d0 : Dev nD) : Nat :=
  let c0_i32_904 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_903 : BitVec 32 := 1#32
  let v837 : BitVec 32 := Scalar.muli v7 c1_i32_903
  let v838 : BitVec 32 := Scalar.addi c0_i32_904 v837
  v838.toNat
def k0_dev39 (d0 : Dev nD) : Nat :=
  let c0_i32_914 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_913 : BitVec 32 := 1#32
  let v839 : BitVec 32 := Scalar.muli v7 c1_i32_913
  let v840 : BitVec 32 := Scalar.addi c0_i32_914 v839
  v840.toNat
def k0_dev40 (d0 : Dev nD) : Nat :=
  let c0_i32_924 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_923 : BitVec 32 := 1#32
  let v849 : BitVec 32 := Scalar.muli v5 c1_i32_923
  let v850 : BitVec 32 := Scalar.addi c0_i32_924 v849
  v850.toNat
def k0_dev41 (d0 : Dev nD) : Nat :=
  let c0_i32_998 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_997 : BitVec 32 := 1#32
  let v917 : BitVec 32 := Scalar.muli v5 c1_i32_997
  let v918 : BitVec 32 := Scalar.addi c0_i32_998 v917
  v918.toNat
def k0_dev42 (d0 : Dev nD) : Nat :=
  let c0_i32_1001 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1000 : BitVec 32 := 1#32
  let v919 : BitVec 32 := Scalar.muli v7 c1_i32_1000
  let v920 : BitVec 32 := Scalar.addi c0_i32_1001 v919
  v920.toNat
def k0_dev43 (d0 : Dev nD) : Nat :=
  let c0_i32_1011 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1010 : BitVec 32 := 1#32
  let v921 : BitVec 32 := Scalar.muli v7 c1_i32_1010
  let v922 : BitVec 32 := Scalar.addi c0_i32_1011 v921
  v922.toNat
def k0_dev44 (d0 : Dev nD) : Nat :=
  let c0_i32_1021 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1020 : BitVec 32 := 1#32
  let v931 : BitVec 32 := Scalar.muli v5 c1_i32_1020
  let v932 : BitVec 32 := Scalar.addi c0_i32_1021 v931
  v932.toNat
def k0_dev45 (d0 : Dev nD) : Nat :=
  let c0_i32_1095 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1094 : BitVec 32 := 1#32
  let v999 : BitVec 32 := Scalar.muli v5 c1_i32_1094
  let v1000 : BitVec 32 := Scalar.addi c0_i32_1095 v999
  v1000.toNat
def k0_dev46 (d0 : Dev nD) : Nat :=
  let c0_i32_1098 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1097 : BitVec 32 := 1#32
  let v1001 : BitVec 32 := Scalar.muli v7 c1_i32_1097
  let v1002 : BitVec 32 := Scalar.addi c0_i32_1098 v1001
  v1002.toNat
def k0_dev47 (d0 : Dev nD) : Nat :=
  let c0_i32_1108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1107 : BitVec 32 := 1#32
  let v1003 : BitVec 32 := Scalar.muli v7 c1_i32_1107
  let v1004 : BitVec 32 := Scalar.addi c0_i32_1108 v1003
  v1004.toNat
def k0_dev48 (d0 : Dev nD) : Nat :=
  let c0_i32_1118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1117 : BitVec 32 := 1#32
  let v1013 : BitVec 32 := Scalar.muli v5 c1_i32_1117
  let v1014 : BitVec 32 := Scalar.addi c0_i32_1118 v1013
  v1014.toNat
def k0_dev49 (d0 : Dev nD) : Nat :=
  let c0_i32_1189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1188 : BitVec 32 := 1#32
  let v1071 : BitVec 32 := Scalar.muli v7 c1_i32_1188
  let v1072 : BitVec 32 := Scalar.addi c0_i32_1189 v1071
  v1072.toNat
def k0_dev50 (d0 : Dev nD) : Nat :=
  let c0_i32_1199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1198 : BitVec 32 := 1#32
  let v1081 : BitVec 32 := Scalar.muli v5 c1_i32_1198
  let v1082 : BitVec 32 := Scalar.addi c0_i32_1199 v1081
  v1082.toNat
def k0_dev51 (d0 : Dev nD) : Nat :=
  let c0_i32_1270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1269 : BitVec 32 := 1#32
  let v1139 : BitVec 32 := Scalar.muli v7 c1_i32_1269
  let v1140 : BitVec 32 := Scalar.addi c0_i32_1270 v1139
  v1140.toNat
def k0_dev52 (d0 : Dev nD) : Nat :=
  let c0_i32_1280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1279 : BitVec 32 := 1#32
  let v1149 : BitVec 32 := Scalar.muli v5 c1_i32_1279
  let v1150 : BitVec 32 := Scalar.addi c0_i32_1280 v1149
  v1150.toNat
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Hops.lean ====
module

public import proofs.«01_k».proof.Proof.Gen.KernelIdeal.Skeleton
public import proofs.«01_k».proof.Proof.Gen.KernelIdeal.Launch
public import proofs.«01_k».proof.Proof.Gen.KernelIdeal.Points

@[expose] public section

/-!
# The kernel body as fourteen hops

The printed body is one long sequence of memory operations, cut into pieces at places that have nothing to do
with the algorithm. This file names the operations of ONE direction of the ring (`δ = true` is the clockwise
ring, `δ = false` the counter-clockwise one), builds a hop from them, and shows that the printed body is the
barrier, the two first partial products, fourteen hops and the last store waits, in that order.
-/

noncomputable section

namespace Cert.KernelIdeal.RingProof

open Idealize.ShloMosaic Idealize.ShloMosaic.TcCoe Idealize.SL.Sem Cert.KernelIdeal Cert.KernelIdeal.Gen

variable {F : FTy → Type} [FloatOps F]

/-- Programs of the kernel's TensorCore. -/
abbrev P (F : FTy → Type) [FloatOps F] : Type → Type 1 := Prog (TpuEff nD τ sig (Elt F) Λ₀ .tc)

/-- The four-slot buffer of a direction. -/
def comm : Bool → Memref sig .tc .vmem S4x256x2048 .f32
  | true => Memref.whole cc0_scratch0
  | false => Memref.whole cc0_scratch1

/-- The result array, in device memory. -/
abbrev outM : Memref sig .tc .hbm S4096x2048 .f32 := Memref.whole main_v1

/-- The semaphores that count a direction's outgoing copies. -/
def sendS : Bool → DmaSems sig S4
  | true => cc0_scratch2
  | false => cc0_scratch4
/-- The semaphores that count a direction's incoming copies. -/
def recvS : Bool → DmaSems sig S4
  | true => cc0_scratch3
  | false => cc0_scratch5
/-- The semaphores that count a direction's copies to the result array. -/
def storeS : Bool → DmaSems sig S4
  | true => cc0_scratch6
  | false => cc0_scratch7
/-- The semaphore on which a direction's reader gives slots back. -/
def credS : Bool → Sems sig S_
  | true => cc0_scratch8
  | false => cc0_scratch9

/-- Slot `j`'s rectangle lies in the buffer. -/
theorem slot_inb (j : Fin 4) : ∀ a, (![j.val, 0, 0] : Fin 3 → ℕ) a + S1x256x2048.size a ≤ S4x256x2048.size a := by
  revert j; decide
/-- Semaphore `j` lies in the array of four. -/
theorem sem_inb (j : Fin 4) : ∀ a, (![j.val] : Fin 1 → ℕ) a + S1.size a ≤ S4.size a := by
  revert j; decide

/-- The rectangle of slot `j`. -/
abbrev slotR (j : Fin 4) : Rect S4x256x2048 := Rect.unit (s := S4x256x2048) ![j.val, 0, 0] S1x256x2048.size (slot_inb j)

/-- Slot `j` of direction `δ`, as a matrix of half a chunk's rows. -/
abbrev slot (δ : Bool) (j : Fin 4) : Memref sig .tc .vmem S256x2048 .f32 :=
  ((comm δ).slice (slotR j) (fun _ => rfl)).squeeze S256x2048 squeezes_S1x256x2048_S256x2048

/-- Semaphore `j` of an array of four. -/
abbrev semAt (a : DmaSems sig S4) (j : Fin 4) : DmaSem sig :=
  ((a.slice (Rect.unit (s := S4) ![j.val] S1.size (sem_inb j))).squeeze S_ squeezes_S1_S_).sem

/-- A block of rows of the result. -/
abbrev outB (o : Fin 2 → ℕ) (ho : ∀ a, o a + S256x2048.size a ≤ S4096x2048.size a) : Memref sig .tc .hbm S256x2048 .f32 :=
  outM.slice (Rect.unit (s := S4096x2048) o S256x2048.size ho) (fun _ => rfl)

/-- Half a chunk of rows of the local `x`. -/
abbrev rowsR (o : Fin 2 → ℕ) (ho : ∀ a, o a + S256x512.size a ≤ S4096x512.size a) : Rect S4096x512 :=
  Rect.unit (s := S4096x512) o S256x512.size ho

/-- The whole of the local `w`. -/
abbrev wR : Rect S512x2048 := Rect.unit (s := S512x2048) ![0, 0] S512x2048.size inb_S512x2048_S512x2048_0_0

/-- The slot that a hop number names. -/
def sl (h : ℕ) : Fin 4 := ⟨h % 4, Nat.mod_lt _ (by decide)⟩

/-! ## Single operations -/

/-- Reads rows of `x`. -/
def ldX (x : Memref sig .tc .vmem S4096x512 .f32) (o : Fin 2 → ℕ) (ho : ∀ a, o a + S256x512.size a ≤ S4096x512.size a) : P F (Vec F S256x512 .f32) :=
  Prog.lift (.load x (rowsR o ho).toLoadRect (View.loadsAt_vmem h_S256x512))
/-- Reads `w`. -/
def ldW (w : Memref sig .tc .vmem S512x2048 .f32) : P F (Vec F S512x2048 .f32) :=
  Prog.lift (.load w wR.toLoadRect (View.loadsAt_vmem h_S512x2048))
/-- Reads a slot. -/
def ldS (δ : Bool) (j : Fin 4) : P F (Vec F S1x256x2048 .f32) :=
  Prog.lift (.load (comm δ) (slotR j).toLoadRect (View.loadsAt_vmem h_S1x256x2048))
/-- Overwrites a slot. -/
def stS (δ : Bool) (j : Fin 4) (v : FVec F S1x256x2048 .f32) : P F PUnit :=
  Prog.lift (.store (comm δ) (slotR j) v Finset.univ (View.stores_vmem_bits_univ h_S1x256x2048 rfl) (.inl rfl))
/-- Starts the copy of slot `s` to slot `r` of device `n`. -/
def sendOp (δ : Bool) (s r : Fin 4) (n : Dev nD) : P F PUnit :=
  Prog.lift (.enqueueDma (slot δ s) (.remote (Dev.tc n) (slot δ r) (.dma (semAt (sendS δ) s))) (.dma (semAt (recvS δ) r))
    ((View.wordExact_bits rfl).reshape _ _) ((View.wordExact_bits rfl).reshape _ _) ⟨⟨rfl, Or.inl rfl⟩, trivial⟩)
/-- Waits for the copy into slot `r`. -/
def recvW (δ : Bool) (s r : Fin 4) : P F PUnit :=
  Prog.lift (.waitDma2 (semAt (recvS δ) r) (slot δ s) (slot δ r) ((View.wordExact_bits rfl).reshape _ _) ((View.wordExact_bits rfl).reshape _ _))
/-- Waits until the copy out of slot `s` has been read. -/
def sendW (δ : Bool) (s r : Fin 4) : P F PUnit :=
  Prog.lift (.waitDma2 (semAt (sendS δ) s) (slot δ r) (slot δ s) ((View.wordExact_bits rfl).reshape _ _) ((View.wordExact_bits rfl).reshape _ _))
/-- Starts the copy of slot `r` to the result's rows at `o`. -/
def storeOp (δ : Bool) (r : Fin 4) (o : Fin 2 → ℕ) (ho : ∀ a, o a + S256x2048.size a ≤ S4096x2048.size a) : P F PUnit :=
  Prog.lift (.enqueueDma (slot δ r) (.here (outB o ho)) (.dma (semAt (storeS δ) r)) ((View.wordExact_bits rfl).reshape _ _) (View.wordExact_bits rfl) ⟨Or.inl rfl, trivial⟩)
/-- Waits for the copy of slot `r` to the result's rows at `o`. -/
def storeW (δ : Bool) (r : Fin 4) (o : Fin 2 → ℕ) (ho : ∀ a, o a + S256x2048.size a ≤ S4096x2048.size a) : P F PUnit :=
  Prog.lift (.waitDma2 (semAt (storeS δ) r) (slot δ r) (outB o ho) ((View.wordExact_bits rfl).reshape _ _) (View.wordExact_bits rfl))
/-- Gives a slot back to device `n`. -/
def sigOp (δ : Bool) (n : Dev nD) : P F PUnit := semSignalWord n (credS δ).sem 1#32
/-- Waits until the reader has given a slot back. -/
def credW (δ : Bool) : P F PUnit := semWaitWord (credS δ).sem 1#32

/-! ## The values -/

/-- The partial product of half a chunk of rows with the local `w`. -/
def mm (a : Vec F S256x512 .f32) (b : Vec F S512x2048 .f32) : FVec F S256x2048 .f32 := k0_pay4 a b
/-- A matrix as the contents of a slot. -/
def up (v : FVec F S256x2048 .f32) : FVec F S1x256x2048 .f32 := shapeCast S1x256x2048 v shapeCasts_S256x2048_S1x256x2048
/-- The contents of a slot as a matrix. -/
def dn (v : Vec F S1x256x2048 .f32) : FVec F S256x2048 .f32 := shapeCast S256x2048 v shapeCasts_S1x256x2048_S256x2048
/-- The activation, as the kernel computes it. -/
def gel (v : FVec F S256x2048 .f32) : FVec F S256x2048 .f32 :=
  mulf (mulf (broadcast S256x2048 (Scalar.ofBits .f32 0x3F000000#32)) v)
    (addf (broadcast S256x2048 (Scalar.ofBits .f32 0x3F800000#32))
      (tanh (mulf (broadcast S256x2048 (Scalar.ofBits .f32 0x3F4C422A#32))
        (addf v (mulf (mulf (mulf (broadcast S256x2048 (Scalar.ofBits .f32 0x3D372713#32)) v) v) v)))))
/-- What hop `h < 7` makes of what has arrived: the sum with the local partial product, and in hop 6 its
    activation. -/
def fin (h : ℕ) (v : FVec F S256x2048 .f32) : FVec F S256x2048 .f32 := if h = 6 then gel v else v

/-! ## The hops -/

/-- Both directions' sends. -/
def send2 (s r : Fin 4) (nR nL : Dev nD) : P F PUnit := do sendOp true s r nR; sendOp false s r nL
/-- Both directions' partial products. -/
def part2 (x : Memref sig .tc .vmem S4096x512 .f32) (w : Memref sig .tc .vmem S512x2048 .f32)
    (o₁ : Fin 2 → ℕ) (h₁ : ∀ a, o₁ a + S256x512.size a ≤ S4096x512.size a)
    (o₂ : Fin 2 → ℕ) (h₂ : ∀ a, o₂ a + S256x512.size a ≤ S4096x512.size a) : P F (FVec F S256x2048 .f32 × FVec F S256x2048 .f32) := do
  let a ← ldX x o₁ h₁
  let b ← ldW w
  let a' ← ldX x o₂ h₂
  let b' ← ldW w
  pure (mm a b, mm a' b')
/-- Both directions' waits for what the neighbours send. -/
def recv2 (s r : Fin 4) : P F PUnit := do recvW true s r; recvW false s r
/-- Adds the partial products to what has arrived. -/
def acc2 (h : ℕ) (r : Fin 4) (p : FVec F S256x2048 .f32 × FVec F S256x2048 .f32) : P F PUnit := do
  let a ← ldS true r
  let b ← ldS false r
  let _ ← ldS true r
  stS true r (up (fin h (addf (dn a) p.1)))
  let _ ← ldS false r
  stS false r (up (fin h (addf (dn b) p.2)))
/-- Both directions' copies to the result. -/
def store2 (r : Fin 4) (o₁ : Fin 2 → ℕ) (h₁ : ∀ a, o₁ a + S256x2048.size a ≤ S4096x2048.size a)
    (o₂ : Fin 2 → ℕ) (h₂ : ∀ a, o₂ a + S256x2048.size a ≤ S4096x2048.size a) : P F PUnit := do storeOp true r o₁ h₁; storeOp false r o₂ h₂
/-- Both directions' waits for the outgoing copies. -/
def sendW2 (s r : Fin 4) : P F PUnit := do sendW true s r; sendW false s r
/-- Both directions' waits for copies to the result. -/
def storeW2 (r : Fin 4) (o₁ : Fin 2 → ℕ) (h₁ : ∀ a, o₁ a + S256x2048.size a ≤ S4096x2048.size a)
    (o₂ : Fin 2 → ℕ) (h₂ : ∀ a, o₂ a + S256x2048.size a ≤ S4096x2048.size a) : P F PUnit := do storeW true r o₁ h₁; storeW false r o₂ h₂
/-- Gives both directions' slots back. -/
def sig2 (kL kR : Dev nD) : P F PUnit := do sigOp true kL; sigOp false kR
/-- Waits for both directions' slots. -/
def cred2 : P F PUnit := do credW true; credW false

/-- The first chunk's two partial products, each into slot 0. -/
def first2 (x : Memref sig .tc .vmem S4096x512 .f32) (w : Memref sig .tc .vmem S512x2048 .f32)
    (o₁ : Fin 2 → ℕ) (h₁ : ∀ a, o₁ a + S256x512.size a ≤ S4096x512.size a)
    (o₂ : Fin 2 → ℕ) (h₂ : ∀ a, o₂ a + S256x512.size a ≤ S4096x512.size a) : P F PUnit := do
  let a ← ldX x o₁ h₁
  let b ← ldW w
  let _ ← ldS true (sl 0)
  stS true (sl 0) (up (mm a b))
  let a ← ldX x o₂ h₂
  let b ← ldW w
  let _ ← ldS false (sl 0)
  stS false (sl 0) (up (mm a b))

/-- The barrier semaphore. -/
abbrev barA : Sems sig S_ := SemArray.scalar (sig.barrier 0 rfl)

/-- The barrier with the two neighbours. -/
def bar2 (l r : Dev nD) : P F PUnit := do
  semSignalWord l barA.sem 1#32
  semSignalWord r barA.sem 1#32
  semWaitWord barA.sem 2#32

/-- The body as written above: barrier, first products, fourteen hops, last store waits. -/
def ringBody (x : Memref sig .tc .vmem S4096x512 .f32) (w : Memref sig .tc .vmem S512x2048 .f32) : P F PUnit := do
  let d : Dev nD ← Prog.lift .deviceId
  bar2 ⟨k0_dev1 d, k0_dev1_lt d⟩ ⟨k0_dev2 d, k0_dev2_lt d⟩
  first2 x w (k0_off1 d) (k0_off1_inb d) (k0_off2 d) (k0_off2_inb d)
  -- hop 0
  send2 (sl 0) (sl 1) ⟨k0_dev3 d, k0_dev3_lt d⟩ ⟨k0_dev4 d, k0_dev4_lt d⟩
  let p ← part2 x w (k0_off3 d 0#32) (k0_off3_inb d 0) (k0_off4 d 0#32) (k0_off4_inb d 0)
  recv2 (sl 0) (sl 1)
  acc2 0 (sl 1) p
  sendW2 (sl 0) (sl 1)
  sig2 ⟨k0_dev5 d, k0_dev5_lt d⟩ ⟨k0_dev6 d, k0_dev6_lt d⟩
  -- hop 1
  send2 (sl 1) (sl 2) ⟨k0_dev7 d, k0_dev7_lt d⟩ ⟨k0_dev8 d, k0_dev8_lt d⟩
  let p ← part2 x w (k0_off3 d 1#32) (k0_off3_inb d 1) (k0_off4 d 1#32) (k0_off4_inb d 1)
  recv2 (sl 1) (sl 2)
  acc2 1 (sl 2) p
  sendW2 (sl 1) (sl 2)
  sig2 ⟨k0_dev9 d, k0_dev9_lt d⟩ ⟨k0_dev10 d, k0_dev10_lt d⟩
  -- hop 2
  send2 (sl 2) (sl 3) ⟨k0_dev11 d, k0_dev11_lt d⟩ ⟨k0_dev12 d, k0_dev12_lt d⟩
  let p ← part2 x w (k0_off3 d 2#32) (k0_off3_inb d 2) (k0_off4 d 2#32) (k0_off4_inb d 2)
  recv2 (sl 2) (sl 3)
  acc2 2 (sl 3) p
  sendW2 (sl 2) (sl 3)
  sig2 ⟨k0_dev13 d, k0_dev13_lt d⟩ ⟨k0_dev14 d, k0_dev14_lt d⟩
  -- hop 3
  cred2
  send2 (sl 3) (sl 4) ⟨k0_dev15 d, k0_dev15_lt d⟩ ⟨k0_dev16 d, k0_dev16_lt d⟩
  let p ← part2 x w (k0_off3 d 3#32) (k0_off3_inb d 3) (k0_off4 d 3#32) (k0_off4_inb d 3)
  recv2 (sl 3) (sl 4)
  acc2 3 (sl 4) p
  sendW2 (sl 3) (sl 4)
  sig2 ⟨k0_dev17 d, k0_dev17_lt d⟩ ⟨k0_dev18 d, k0_dev18_lt d⟩
  -- hop 4
  cred2
  send2 (sl 4) (sl 5) ⟨k0_dev19 d, k0_dev19_lt d⟩ ⟨k0_dev20 d, k0_dev20_lt d⟩
  let p ← part2 x w (k0_off3 d 4#32) (k0_off3_inb d 4) (k0_off4 d 4#32) (k0_off4_inb d 4)
  recv2 (sl 4) (sl 5)
  acc2 4 (sl 5) p
  sendW2 (sl 4) (sl 5)
  sig2 ⟨k0_dev21 d, k0_dev21_lt d⟩ ⟨k0_dev22 d, k0_dev22_lt d⟩
  -- hop 5
  cred2
  send2 (sl 5) (sl 6) ⟨k0_dev23 d, k0_dev23_lt d⟩ ⟨k0_dev24 d, k0_dev24_lt d⟩
  let p ← part2 x w (k0_off3 d 5#32) (k0_off3_inb d 5) (k0_off4 d 5#32) (k0_off4_inb d 5)
  recv2 (sl 5) (sl 6)
  acc2 5 (sl 6) p
  sendW2 (sl 5) (sl 6)
  sig2 ⟨k0_dev25 d, k0_dev25_lt d⟩ ⟨k0_dev26 d, k0_dev26_lt d⟩
  -- hop 6
  cred2
  send2 (sl 6) (sl 7) ⟨k0_dev27 d, k0_dev27_lt d⟩ ⟨k0_dev28 d, k0_dev28_lt d⟩
  let p ← part2 x w (k0_off3 d 6#32) (k0_off3_inb d 6) (k0_off4 d 6#32) (k0_off4_inb d 6)
  recv2 (sl 6) (sl 7)
  acc2 6 (sl 7) p
  store2 (sl 7) (k0_off5 d 6#32) (k0_off5_inb d 0) (k0_off6 d 6#32) (k0_off6_inb d 0)
  sendW2 (sl 6) (sl 7)
  sig2 ⟨k0_dev29 d, k0_dev29_lt d⟩ ⟨k0_dev30 d, k0_dev30_lt d⟩
  -- hop 7
  cred2
  send2 (sl 7) (sl 8) ⟨k0_dev31 d, k0_dev31_lt d⟩ ⟨k0_dev32 d, k0_dev32_lt d⟩
  recv2 (sl 7) (sl 8)
  store2 (sl 8) (k0_off5 d 7#32) (k0_off5_inb d 1) (k0_off6 d 7#32) (k0_off6_inb d 1)
  sendW2 (sl 7) (sl 8)
  storeW2 (sl 7) (k0_off5 d 6#32) (k0_off5_inb d 0) (k0_off6 d 6#32) (k0_off6_inb d 0)
  sig2 ⟨k0_dev33 d, k0_dev33_lt d⟩ ⟨k0_dev34 d, k0_dev34_lt d⟩
  -- hop 8
  cred2
  send2 (sl 8) (sl 9) ⟨k0_dev35 d, k0_dev35_lt d⟩ ⟨k0_dev36 d, k0_dev36_lt d⟩
  recv2 (sl 8) (sl 9)
  store2 (sl 9) (k0_off5 d 8#32) (k0_off5_inb d 2) (k0_off6 d 8#32) (k0_off6_inb d 2)
  sendW2 (sl 8) (sl 9)
  storeW2 (sl 8) (k0_off5 d 7#32) (k0_off5_inb d 1) (k0_off6 d 7#32) (k0_off6_inb d 1)
  sig2 ⟨k0_dev37 d, k0_dev37_lt d⟩ ⟨k0_dev38 d, k0_dev38_lt d⟩
  -- hop 9
  cred2
  send2 (sl 9) (sl 10) ⟨k0_dev39 d, k0_dev39_lt d⟩ ⟨k0_dev40 d, k0_dev40_lt d⟩
  recv2 (sl 9) (sl 10)
  store2 (sl 10) (k0_off5 d 9#32) (k0_off5_inb d 3) (k0_off6 d 9#32) (k0_off6_inb d 3)
  sendW2 (sl 9) (sl 10)
  storeW2 (sl 9) (k0_off5 d 8#32) (k0_off5_inb d 2) (k0_off6 d 8#32) (k0_off6_inb d 2)
  sig2 ⟨k0_dev41 d, k0_dev41_lt d⟩ ⟨k0_dev42 d, k0_dev42_lt d⟩
  -- hop 10
  cred2
  send2 (sl 10) (sl 11) ⟨k0_dev43 d, k0_dev43_lt d⟩ ⟨k0_dev44 d, k0_dev44_lt d⟩
  recv2 (sl 10) (sl 11)
  store2 (sl 11) (k0_off5 d 10#32) (k0_off5_inb d 4) (k0_off6 d 10#32) (k0_off6_inb d 4)
  sendW2 (sl 10) (sl 11)
  storeW2 (sl 10) (k0_off5 d 9#32) (k0_off5_inb d 3) (k0_off6 d 9#32) (k0_off6_inb d 3)
  sig2 ⟨k0_dev45 d, k0_dev45_lt d⟩ ⟨k0_dev46 d, k0_dev46_lt d⟩
  -- hop 11
  cred2
  send2 (sl 11) (sl 12) ⟨k0_dev47 d, k0_dev47_lt d⟩ ⟨k0_dev48 d, k0_dev48_lt d⟩
  recv2 (sl 11) (sl 12)
  store2 (sl 12) (k0_off5 d 11#32) (k0_off5_inb d 5) (k0_off6 d 11#32) (k0_off6_inb d 5)
  sendW2 (sl 11) (sl 12)
  -- hop 12
  cred2
  send2 (sl 12) (sl 13) ⟨k0_dev49 d, k0_dev49_lt d⟩ ⟨k0_dev50 d, k0_dev50_lt d⟩
  recv2 (sl 12) (sl 13)
  store2 (sl 13) (k0_off5 d 12#32) (k0_off5_inb d 6) (k0_off6 d 12#32) (k0_off6_inb d 6)
  sendW2 (sl 12) (sl 13)
  -- hop 13
  cred2
  send2 (sl 13) (sl 14) ⟨k0_dev51 d, k0_dev51_lt d⟩ ⟨k0_dev52 d, k0_dev52_lt d⟩
  recv2 (sl 13) (sl 14)
  store2 (sl 14) (k0_off5 d 13#32) (k0_off5_inb d 7) (k0_off6 d 13#32) (k0_off6_inb d 7)
  sendW2 (sl 13) (sl 14)
  storeW2 (sl 11) (k0_off5 d 10#32) (k0_off5_inb d 4) (k0_off6 d 10#32) (k0_off6_inb d 4)
  storeW2 (sl 12) (k0_off5 d 11#32) (k0_off5_inb d 5) (k0_off6 d 11#32) (k0_off6_inb d 5)
  storeW2 (sl 13) (k0_off5 d 12#32) (k0_off5_inb d 6) (k0_off6 d 12#32) (k0_off6_inb d 6)
  storeW2 (sl 14) (k0_off5 d 13#32) (k0_off5_inb d 7) (k0_off6 d 13#32) (k0_off6_inb d 7)
  pure ⟨⟩

set_option maxRecDepth 65536 in
set_option maxHeartbeats 0 in
/-- The printed body is the ring body. -/
theorem body_eq (x : Memref sig .tc .vmem S4096x512 .f32) (hx : x.IsWhole) (w : Memref sig .tc .vmem S512x2048 .f32) (hw : w.IsWhole) :
    cc0_body (F := F) x hx w hw outM (Memref.isWhole_whole _) (Memref.whole cc0_scratch0) (Memref.isWhole_whole _) (Memref.whole cc0_scratch1) (Memref.isWhole_whole _)
      cc0_scratch2 cc0_scratch3 cc0_scratch4 cc0_scratch5 cc0_scratch6 cc0_scratch7 cc0_scratch8 cc0_scratch9 = ringBody x w := by
  rfl

end Cert.KernelIdeal.RingProof

end
-- ==== Proof.Protocol.lean ====
module

public import proofs.«01_k».proof.Proof.Hops
public import Idealize.ShloMosaic.Lib.Pipeline.Launch
public import Idealize.ShloMosaic.Lib.Pipeline.Kit
public import Idealize.ShloMosaic.Lib.Tactic

@[expose] public section

/-!
# The protocol of the two rings

Eight devices stand in a ring. In direction `δ` a device sends to `nx δ c` and receives from `pv δ c`; the other
direction runs the other way round, so `nx (!δ) = pv δ`. At hop `h` a device sends its slot `h % 4` to slot
`(h + 1) % 4` of the next device. This file states, for every semaphore, what each increment of it hands over:

* barrier: the neighbour's slots 1 and 2, which hops 0 and 1 write;
* incoming copy of hop `h`: the slot that was written, with its contents, and the sender's slot of the OTHER
  direction that this device writes two hops later;
* outgoing copy of hop `h`: the half of the slot that the copy was reading;
* copy to the result: the rows that were written, and the half of the slot the copy was reading;
* slot credits: nothing (the slots travel with the copies), so that they only have to be counted.
-/

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Ghost state of the rounds: duties are numbered. -/
abbrev UB : Type := URounds (GSem nD τ sig) ℕ
/-- Ghost state of the launch: the input copies' and the rings'. -/
abbrev UU : Type := UR sig nD τ × UB

local notation "𝕄" => MT nD τ sig ℕ (Elt F) ℕ UU ℕ

/-- The input copies' part. -/
abbrev EP : Emb (UR sig nD τ) (MT nD τ sig ℕ (Elt F) ℕ UU ℕ) := embL
/-- The rings' part. -/
abbrev ER : Emb UB (MT nD τ sig ℕ (Elt F) ℕ UU ℕ) := embR

/-! ## The ring -/

set_option backward.proofsInPublic true in
/-- The device a direction sends to. -/
def nx (δ : Bool) (c : Dev nD) : Dev nD := ⟨(c.val + if δ then 1 else 7) % 8, Nat.mod_lt _ (by decide)⟩
set_option backward.proofsInPublic true in
/-- The device a direction receives from. -/
def pv (δ : Bool) (c : Dev nD) : Dev nD := ⟨(c.val + if δ then 7 else 1) % 8, Nat.mod_lt _ (by decide)⟩

/-- The device before the next one. -/
theorem pv_nx (δ : Bool) (c : Dev nD) : pv δ (nx δ c) = c := by revert δ c; decide
/-- The device after the one before. -/
theorem nx_pv (δ : Bool) (c : Dev nD) : nx δ (pv δ c) = c := by revert δ c; decide
/-- The two directions run against each other. -/
theorem nx_not (δ : Bool) (c : Dev nD) : nx (!δ) c = pv δ c := by revert δ c; decide
/-- The two directions run against each other. -/
theorem pv_not (δ : Bool) (c : Dev nD) : pv (!δ) c = nx δ c := by revert δ c; decide

/-- One step along a direction, as a permutation of the devices. -/
def ring (δ : Bool) : Dev nD ≃ Dev nD := ⟨nx δ, pv δ, pv_nx δ, nx_pv δ⟩

/-! ## The semaphores -/

/-- The semaphores of the protocol on one device. -/
inductive CK where
  /-- The barrier. -/
  | bar
  /-- Outgoing copies from a slot. -/
  | send (δ : Bool) (j : Fin 4)
  /-- Incoming copies to a slot. -/
  | recv (δ : Bool) (j : Fin 4)
  /-- Copies of a slot to the result. -/
  | store (δ : Bool) (j : Fin 4)
  /-- Slot credits. -/
  | credit (δ : Bool)
  deriving DecidableEq

/-- A device's own semaphores, in one direction. -/
def ownHalf (δ : Bool) : List CK :=
  [.send δ 0, .send δ 1, .send δ 2, .send δ 3, .recv δ 0, .recv δ 1, .recv δ 2, .recv δ 3,
   .store δ 0, .store δ 1, .store δ 2, .store δ 3, .credit δ]
/-- All of them but the barrier. -/
def ownList : List CK := ownHalf true ++ ownHalf false
/-- All of them. -/
def ckList : List CK := .bar :: ownList

/-- Every one is listed. -/
theorem mem_ckList (k : CK) : k ∈ ckList := by
  cases k with
  | bar => decide
  | send δ j => revert δ j; decide
  | recv δ j => revert δ j; decide
  | store δ j => revert δ j; decide
  | credit δ => revert δ; decide

instance : Fintype CK := ⟨⟨ckList, by decide⟩, mem_ckList⟩

/-- The semaphore itself. -/
def csem : CK → SemLoc sig
  | .bar => .reg barA.sem
  | .send δ j => .dma (semAt (sendS δ) j)
  | .recv δ j => .dma (semAt (recvS δ) j)
  | .store δ j => .dma (semAt (storeS δ) j)
  | .credit δ => .reg (credS δ).sem

/-- The semaphore on a device. -/
abbrev cell (c : Dev nD) (k : CK) : GSem nD τ sig := ((c : Thread nD τ), csem k)

/-- Which of them a semaphore is, by its number. -/
def dec : SemLoc sig → Option CK
  | .dma q =>
    if q.val < 2 then none else if q.val < 6 then some (.send true (sl (q.val + 2))) else if q.val < 10 then some (.recv true (sl (q.val + 2)))
    else if q.val < 14 then some (.send false (sl (q.val + 2))) else if q.val < 18 then some (.recv false (sl (q.val + 2)))
    else if q.val < 22 then some (.store true (sl (q.val + 2))) else some (.store false (sl (q.val + 2)))
  | .reg q => if q.val = 0 then some (.credit true) else if q.val = 1 then some (.credit false) else some .bar

/-- The numbers of the outgoing copies' semaphores. -/
theorem sendS_val (δ : Bool) (j : Fin 4) : (semAt (sendS δ) j).val = (if δ then 2 else 10) + j.val := by
  cases δ <;> fin_cases j <;> rfl
/-- The numbers of the incoming copies' semaphores. -/
theorem recvS_val (δ : Bool) (j : Fin 4) : (semAt (recvS δ) j).val = (if δ then 6 else 14) + j.val := by
  cases δ <;> fin_cases j <;> rfl
/-- The numbers of the semaphores of the copies to the result. -/
theorem storeS_val (δ : Bool) (j : Fin 4) : (semAt (storeS δ) j).val = (if δ then 18 else 22) + j.val := by
  cases δ <;> fin_cases j <;> rfl

/-- Naming a semaphore and asking which it is. -/
theorem dec_csem (k : CK) : dec (csem k) = some k := by
  cases k with
  | bar => rfl
  | send δ j => unfold csem dec; simp only [sendS_val]; cases δ <;> fin_cases j <;> rfl
  | recv δ j => unfold csem dec; simp only [recvS_val]; cases δ <;> fin_cases j <;> rfl
  | store δ j => unfold csem dec; simp only [storeS_val]; cases δ <;> fin_cases j <;> rfl
  | credit δ => cases δ <;> rfl

/-- Different names, different semaphores. -/
theorem csem_injective : Function.Injective csem := fun a b h => by
  have := congrArg dec h
  rwa [dec_csem, dec_csem, Option.some.injEq] at this

/-- Semaphores on devices, told apart. -/
theorem cell_inj {c c' : Dev nD} {k k' : CK} (h : cell c k = cell c' k') : c = c' ∧ k = k' :=
  ⟨congrArg (fun g : GSem nD τ sig => g.1.1) h, csem_injective (congrArg Prod.snd h)⟩

/-- A copy of a slot counts for some number. -/
theorem exists_credit : ∃ n : ℕ, n = (slot true 0).view.dmaCredit := ⟨_, rfl⟩
/-- What a copy of a slot counts for. (Only its being the same for all of them, and positive, matters.) -/
def N : ℕ := exists_credit.choose
/-- That is what it counts for. -/
theorem N_eq : N = (slot true 0).view.dmaCredit := exists_credit.choose_spec
/-- It counts for something. -/
theorem N_pos : 0 < N := by rw [N_eq]; exact View.dmaCredit_pos _ (by decide)

/-! ## Which rows -/

/-- The chunk that sits in the current slot when hop `h` begins. -/
def ck (δ : Bool) (c : Dev nD) (h : ℕ) : Fin 8 :=
  ⟨(c.val + if δ then 7 * h else h) % 8, Nat.mod_lt _ (by decide)⟩

/-- The first row of a direction's half of a chunk. -/
def rowOff (δ : Bool) (j : Fin 8) : Fin 2 → ℕ := ![512 * j.val + if δ then 0 else 256, 0]

/-- These rows lie in the local `x`. -/
theorem rowOff_x (δ : Bool) (j : Fin 8) : ∀ a, rowOff δ j a + S256x512.size a ≤ S4096x512.size a := by
  revert δ j; decide
/-- These rows lie in the result. -/
theorem rowOff_out (δ : Bool) (j : Fin 8) : ∀ a, rowOff δ j a + S256x2048.size a ≤ S4096x2048.size a := by
  revert δ j; decide

/-- The result's rows that hop `h` of a direction fills on a device. -/
abbrev outAt (δ : Bool) (c : Dev nD) (h : ℕ) : Memref sig .tc .hbm S256x2048 .f32 :=
  outB (rowOff δ (ck δ c (h + 1))) (rowOff_out δ _)

/-! ## What is handed over

`cv δ c h` is the matrix in device `c`'s slot `h % 4` when hop `h` begins. -/

variable (cv : Bool → Dev nD → ℕ → Vec F S256x2048 .f32)

/-- A slot, at any contents. -/
def free (c : Dev nD) (δ : Bool) (j : Fin 4) : sProp 𝕄 :=
  iprop(∃ f, (slot δ j).view.loc (c : Thread nD τ) ↦[(slot δ j).view.set]{fullShare} f)

/-- Rows of the result, at any contents. -/
def outFree (δ : Bool) (c : Dev nD) (h : ℕ) : sProp 𝕄 :=
  iprop(∃ f, (outAt δ c h).view.loc (c : Thread nD τ) ↦[(outAt δ c h).view.set]{fullShare} f)

/-- What the sender of hop `h` adds to its copy: its slot of the other direction which the receiver fills at hop
    `h + 2`, ready to be filled. -/
def ride (δ : Bool) (c : Dev nD) (h : ℕ) : sProp 𝕄 :=
  iprop(free c (!δ) (sl (h + 3)) ∗ reached ER (cell c (.recv (!δ) (sl (h + 3)))) ((h + 2) / 4))

/-- The barrier's increment from the device that direction `δ` sends to: its slots 1 and 2. -/
def barPay (δ : Bool) (c : Dev nD) : sProp 𝕄 := iprop(free (nx δ c) δ (sl 1) ∗ free (nx δ c) δ (sl 2))
/-- After an outgoing copy: the half of the slot the copy was reading. -/
def sendPay (δ : Bool) (c : Dev nD) (h : ℕ) : sProp 𝕄 := owns (c : Thread nD τ) (slot δ (sl h)) fullShare.left (cv δ c h)
/-- After an incoming copy: the slot, as it was at the sender; and, up to hop 11, what rides with it. -/
def recvPay (δ : Bool) (c : Dev nD) (h : ℕ) : sProp 𝕄 :=
  iprop(owns (c : Thread nD τ) (slot δ (sl (h + 1))) fullShare (cv δ (pv δ c) h) ∗ if h < 12 then ride δ (pv δ c) h else emp)
/-- After a copy to the result: the rows, and the half of the slot the copy was reading. -/
def storePay (δ : Bool) (c : Dev nD) (h : ℕ) : sProp 𝕄 :=
  iprop(owns (c : Thread nD τ) (outAt δ c h) fullShare (cv δ c (h + 1)) ∗ owns (c : Thread nD τ) (slot δ (sl (h + 1))) fullShare.right (cv δ c (h + 1)))

/-- The duties of a round. -/
def dut : CK → ℕ → Finset ℕ
  | .bar, r => if r = 0 then {0, 1} else ∅
  | .send _ j, r => if 4 * r + j.val < 14 then {0} else ∅
  | .recv _ j, r => if 4 * r + (j.val + 3) % 4 < 14 then {0} else ∅
  | .store _ _, r => if r < 2 then {0} else ∅
  | .credit _, r => if r = 0 then Finset.range 11 else ∅

/-- What an increment counts for. -/
def amt : CK → ℕ
  | .bar => 1
  | .credit _ => 1
  | _ => N

/-- What an increment hands over. -/
def pay (c : Dev nD) : CK → ℕ → ℕ → sProp 𝕄
  | .bar, _, d => barPay (d == 1) c
  | .send δ j, r, _ => sendPay cv δ c (4 * r + j.val)
  | .recv δ j, r, _ => recvPay cv δ c (4 * r + (j.val + 3) % 4)
  | .store δ j, r, _ => storePay cv δ c (6 + (4 * r + (j.val + 1) % 4))
  | .credit _, _, _ => iprop(emp)

/-- Every increment counts for something. -/
theorem amt_pos : ∀ k : CK, 0 < amt k
  | .bar => Nat.one_pos
  | .credit _ => Nat.one_pos
  | .send _ _ => N_pos
  | .recv _ _ => N_pos
  | .store _ _ => N_pos

omit [FloatOps F] in
instance free_storable (c : Dev nD) (δ : Bool) (j : Fin 4) : BI.Storable (upEmb : UEmb _ 𝕄) (free (F := F) c δ j) := by
  unfold free; infer_instance
omit [FloatOps F] in
instance outFree_storable (δ : Bool) (c : Dev nD) (h : ℕ) : BI.Storable (upEmb : UEmb _ 𝕄) (outFree (F := F) δ c h) := by
  unfold outFree; infer_instance

instance barPay_storable (δ : Bool) (c : Dev nD) : BI.Storable (upEmb : UEmb _ 𝕄) (barPay (F := F) δ c) := by
  unfold barPay; infer_instance
instance sendPay_storable (δ : Bool) (c : Dev nD) (h : ℕ) : BI.Storable (upEmb : UEmb _ 𝕄) (sendPay cv δ c h) := by
  unfold sendPay; infer_instance
instance ride_storable (δ : Bool) (c : Dev nD) (h : ℕ) : BI.Storable (upEmb : UEmb _ 𝕄) (ride (F := F) δ c h) := by
  unfold ride; infer_instance
instance recvPay_storable (δ : Bool) (c : Dev nD) (h : ℕ) : BI.Storable (upEmb : UEmb _ 𝕄) (recvPay cv δ c h) := by
  unfold recvPay; split <;> infer_instance
instance storePay_storable (δ : Bool) (c : Dev nD) (h : ℕ) : BI.Storable (upEmb : UEmb _ 𝕄) (storePay cv δ c h) := by
  unfold storePay; infer_instance
instance pay_storable (c : Dev nD) (k : CK) (r d : ℕ) : BI.Storable (upEmb : UEmb _ 𝕄) (pay cv c k r d) := by
  cases k with
  | bar => exact barPay_storable _ c
  | send δ j => exact sendPay_storable cv δ c _
  | recv δ j => exact recvPay_storable cv δ c _
  | store δ j => exact storePay_storable cv δ c _
  | credit δ => show BI.Storable upEmb iprop(emp); infer_instance

/-- The schedule of all semaphores. -/
def Rd : Rounds.Schedule (GSem nD τ sig) ℕ 𝕄 where
  duties g r := if g.1.2 = .tc then (dec g.2).elim ∅ (fun k => dut k r) else ∅
  unitless _ := False
  amount g _ _ := (dec g.2).elim 1 amt
  payload g r d := (dec g.2).elim iprop(emp) (fun k => pay cv g.1.1 k r d)
  amount_pos g _ _ _ := by
    cases dec g.2 with
    | none => exact Nat.one_pos
    | some k => exact amt_pos k

instance Rd_storable (g : GSem nD τ sig) (r d : ℕ) : BI.Storable (upEmb : UEmb _ 𝕄) ((Rd cv).payload g r d) := by
  show BI.Storable upEmb ((dec g.2).elim iprop(emp) (fun k => pay cv g.1.1 k r d))
  cases dec g.2 with
  | none => show BI.Storable upEmb iprop(emp); infer_instance
  | some k => exact pay_storable cv g.1.1 k r d

section Sched
variable (c : Dev nD) (k : CK) (r d : ℕ)

/-- The duties of a named semaphore. -/
theorem Rd_duties : (Rd cv).duties (cell c k) r = dut k r := by
  show (if (cell c k).1.2 = .tc then (dec (csem k)).elim ∅ (fun k => dut k r) else ∅) = _
  rw [dec_csem]; rfl
/-- The amounts of a named semaphore. -/
theorem Rd_amount : (Rd cv).amount (cell c k) r d = amt k := by
  show (dec (csem k)).elim 1 amt = _
  rw [dec_csem]; rfl
/-- The payloads of a named semaphore. -/
theorem Rd_payload : (Rd cv).payload (cell c k) r d = pay cv c k r d := by
  show (dec (csem k)).elim iprop(emp) (fun k => pay cv c k r d) = _
  rw [dec_csem]; rfl
/-- What a round of a named semaphore adds up to. -/
theorem Rd_expect : (Rd cv).expect (cell c k) r = (dut k r).card * amt k := by
  unfold Schedule.expect Schedule.amountOf
  rw [Rd_duties, Finset.sum_congr rfl fun d _ => Rd_amount cv c k r d, Finset.sum_const, smul_eq_mul]

/-- The round of a slot's semaphores at a hop. -/
theorem dut_send (δ : Bool) {h : ℕ} (hh : h < 14) : dut (.send δ (sl h)) (h / 4) = {0} := by
  unfold dut sl; exact if_pos (by show 4 * (h / 4) + h % 4 < 14; omega)
/-- The same for the incoming copy. -/
theorem dut_recv (δ : Bool) {h : ℕ} (hh : h < 14) : dut (.recv δ (sl (h + 1))) (h / 4) = {0} := by
  unfold dut sl; exact if_pos (by show 4 * (h / 4) + ((h + 1) % 4 + 3) % 4 < 14; omega)
/-- The same for the copy to the result, the hop counted from the first that fills the result. -/
theorem dut_store (δ : Bool) {i : ℕ} (hi : i < 8) : dut (.store δ (sl (i + 7))) (i / 4) = {0} := by
  unfold dut; exact if_pos (by omega)

/-- What the outgoing copy of a hop gives back. -/
theorem pay_send (δ : Bool) (h : ℕ) : pay cv c (.send δ (sl h)) (h / 4) d = sendPay cv δ c h := by
  show sendPay cv δ c (4 * (h / 4) + h % 4) = _
  rw [show 4 * (h / 4) + h % 4 = h by omega]
/-- What the incoming copy of a hop brings. -/
theorem pay_recv (δ : Bool) (h : ℕ) : pay cv c (.recv δ (sl (h + 1))) (h / 4) d = recvPay cv δ c h := by
  show recvPay cv δ c (4 * (h / 4) + ((h + 1) % 4 + 3) % 4) = _
  rw [show 4 * (h / 4) + ((h + 1) % 4 + 3) % 4 = h by omega]
/-- What the copy to the result gives back. -/
theorem pay_store (δ : Bool) (i : ℕ) : pay cv c (.store δ (sl (i + 7))) (i / 4) d = storePay cv δ c (i + 6) := by
  show storePay cv δ c (6 + (4 * (i / 4) + ((i + 7) % 4 + 1) % 4)) = _
  rw [show 6 + (4 * (i / 4) + ((i + 7) % 4 + 1) % 4) = i + 6 by omega]

end Sched

/-! ## What a device owes, and in which order things are waited for -/

/-- The incoming copies a device still owes to the next one, from hop `h` on. -/
def oR (δ : Bool) (c : Dev nD) (h : ℕ) : CellTallies nD τ sig ℕ :=
  ∑ i ∈ Finset.Ico h 14, tallyAt (cell (nx δ c) (.recv δ (sl (i + 1)))) i N
/-- The slot credits a device still owes to the one before, from hop `h` on. -/
def oC (δ : Bool) (c : Dev nD) (h : ℕ) : CellTallies nD τ sig ℕ :=
  ∑ i ∈ Finset.Ico h 11, tallyAt (cell (pv δ c) (.credit δ)) i 1
/-- All of it. -/
def ow (c : Dev nD) (a b e f : ℕ) : CellTallies nD τ sig ℕ := oR true c a + oR false c b + oC true c e + oC false c f

/-- Splitting the first number off a range. -/
theorem Ico_cons {a b : ℕ} (h : a < b) : Finset.Ico a b = insert a (Finset.Ico (a + 1) b) := by
  ext x; simp only [Finset.mem_Ico, Finset.mem_insert]; omega
/-- The first number is not in the rest. -/
theorem notMem_Ico (a b : ℕ) : a ∉ Finset.Ico (a + 1) b := by
  intro h; have := (Finset.mem_Ico.mp h).1; omega

/-- Taking the next copy off. -/
theorem oR_succ (δ : Bool) (c : Dev nD) {h : ℕ} (hh : h < 14) :
    oR δ c h = oR δ c (h + 1) + tallyAt (cell (nx δ c) (.recv δ (sl (h + 1)))) h N := by
  unfold oR; rw [Ico_cons hh, Finset.sum_insert (notMem_Ico _ _), add_comm]
/-- Taking the next credit off. -/
theorem oC_succ (δ : Bool) (c : Dev nD) {h : ℕ} (hh : h < 11) :
    oC δ c h = oC δ c (h + 1) + tallyAt (cell (pv δ c) (.credit δ)) h 1 := by
  unfold oC; rw [Ico_cons hh, Finset.sum_insert (notMem_Ico _ _), add_comm]
/-- No credit is owed from hop 11 on. -/
theorem oC_end (δ : Bool) (c : Dev nD) {h : ℕ} (hh : 11 ≤ h) : oC δ c h = 0 := by
  unfold oC; rw [Finset.Ico_eq_empty (by omega), Finset.sum_empty]
/-- No copy is owed after the last hop. -/
theorem oR_end (δ : Bool) (c : Dev nD) : oR δ c 14 = 0 := by
  unfold oR; rw [Finset.Ico_self, Finset.sum_empty]

/-- The first send of a hop. -/
theorem ow_sendT (c : Dev nD) {a : ℕ} (b e f : ℕ) (ha : a < 14) :
    ow c a b e f = ow c (a + 1) b e f + tallyAt (cell (nx true c) (.recv true (sl (a + 1)))) a N := by
  unfold ow; rw [oR_succ true c ha]; ac_rfl
/-- The second send of a hop. -/
theorem ow_sendF (c : Dev nD) (a : ℕ) {b : ℕ} (e f : ℕ) (hb : b < 14) :
    ow c a b e f = ow c a (b + 1) e f + tallyAt (cell (nx false c) (.recv false (sl (b + 1)))) b N := by
  unfold ow; rw [oR_succ false c hb]; ac_rfl
/-- The first credit of a hop. -/
theorem ow_credT (c : Dev nD) (a b : ℕ) {e : ℕ} (f : ℕ) (he : e < 11) :
    ow c a b e f = ow c a b (e + 1) f + tallyAt (cell (pv true c) (.credit true)) e 1 := by
  unfold ow; rw [oC_succ true c he]; ac_rfl
/-- The second credit of a hop. -/
theorem ow_credF (c : Dev nD) (a b e : ℕ) {f : ℕ} (hf : f < 11) :
    ow c a b e f = ow c a b e (f + 1) + tallyAt (cell (pv false c) (.credit false)) f 1 := by
  unfold ow; rw [oC_succ false c hf]; ac_rfl
/-- From hop 11 on the number of credits given does not matter. -/
theorem ow_late (c : Dev nD) (a b : ℕ) {e e' : ℕ} (he : 11 ≤ e) (he' : 11 ≤ e') : ow c a b e e = ow c a b e' e' := by
  unfold ow; rw [oC_end true c he, oC_end false c he, oC_end true c he', oC_end false c he']
/-- At the end nothing is owed. -/
theorem ow_end (c : Dev nD) {e : ℕ} (he : 11 ≤ e) : ow c 14 14 e e = 0 := by
  unfold ow; rw [oC_end true c he, oC_end false c he, oR_end, oR_end]; simp only [add_zero]

/-- What is owed at the start, the two barrier increments included; the first one given is the last summand. -/
def O₁ (c : Dev nD) : CellTallies nD τ sig ℕ := ow c 0 0 0 0 + tallyAt (cell (pv false c) .bar) 0 1
/-- What is owed at the start. -/
def O₀ (c : Dev nD) : CellTallies nD τ sig ℕ := O₁ c + tallyAt (cell (pv true c) .bar) 0 1

/-- The indices at which a semaphore may be waited for. -/
def L (g : GSem nD τ sig) : Finset ℕ := if g.1.2 = .tc then Finset.range 14 else ∅
/-- The order of the waits: the barrier, then hop by hop the incoming copies and the credits. -/
def lv (g : GSem nD τ sig) (i : ℕ) : ℕ := match dec g.2 with
  | some .bar => 1
  | some (.recv _ _) => 2 * i + 3
  | some (.credit _) => 2 * i + 4
  | _ => 0

/-- Only TensorCores wait. -/
theorem L_of_ne (g : GSem nD τ sig) (h : g.1.2 ≠ .tc) : L g = ∅ := if_neg h
/-- A TensorCore waits at fourteen indices. -/
theorem L_tc (c : Dev nD) (sm : SemLoc sig) : L ((c : Thread nD τ), sm) = Finset.range 14 := if_pos rfl
/-- The level of an incoming copy. -/
theorem lv_recv (c : Dev nD) (δ : Bool) (j : Fin 4) (i : ℕ) : lv (cell c (.recv δ j)) i = 2 * i + 3 := by
  unfold lv; rw [dec_csem]
/-- The level of a credit. -/
theorem lv_credit (c : Dev nD) (δ : Bool) (i : ℕ) : lv (cell c (.credit δ)) i = 2 * i + 4 := by
  unfold lv; rw [dec_csem]
/-- The level of the barrier. -/
theorem lv_bar (c : Dev nD) (i : ℕ) : lv (cell c .bar) i = 1 := by
  unfold lv; rw [dec_csem]
/-- The level of an outgoing copy. -/
theorem lv_send (c : Dev nD) (δ : Bool) (j : Fin 4) (i : ℕ) : lv (cell c (.send δ j)) i = 0 := by
  unfold lv; rw [dec_csem]
/-- The level of a copy to the result. -/
theorem lv_store (c : Dev nD) (δ : Bool) (j : Fin 4) (i : ℕ) : lv (cell c (.store δ j)) i = 0 := by
  unfold lv; rw [dec_csem]

/-- Everything owed lies above level `n`. -/
def Above (n : ℕ) (O : CellTallies nD τ sig ℕ) : Prop := ∀ g i, 0 < O g i → i ∈ L g ∧ n < lv g i

/-- Nothing owed. -/
theorem above_zero (n : ℕ) : Above n 0 := fun g i h => absurd h (Nat.lt_irrefl 0)
/-- Two parts. -/
theorem Above.add {n : ℕ} {A B : CellTallies nD τ sig ℕ} (hA : Above n A) (hB : Above n B) : Above n (A + B) := fun g i h => by
  rw [Pi.add_apply, Finsupp.add_apply] at h
  rcases Nat.eq_zero_or_pos (A g i) with h0 | h0
  · exact hB g i (by omega)
  · exact hA g i h0
/-- Many parts. -/
theorem above_sum {n : ℕ} (s : Finset ℕ) (f : ℕ → CellTallies nD τ sig ℕ) (hf : ∀ i ∈ s, Above n (f i)) : Above n (∑ i ∈ s, f i) := by
  induction s using Finset.induction_on with
  | empty => rw [Finset.sum_empty]; exact above_zero n
  | insert a s ha ih =>
    rw [Finset.sum_insert ha]
    exact (hf a (Finset.mem_insert_self _ _)).add (ih fun i hi => hf i (Finset.mem_insert_of_mem hi))
/-- One increment. -/
theorem above_tally {n : ℕ} (c : Dev nD) (k : CK) (i v : ℕ) (hi : i < 14) (hn : n < lv (cell c k) i) : Above n (tallyAt (cell c k) i v) := fun g u h => by
  rw [tallyAt_apply] at h
  by_cases hg : g = cell c k ∧ u = i
  · obtain ⟨rfl, rfl⟩ := hg
    exact ⟨by rw [L_tc]; exact Finset.mem_range.mpr hi, hn⟩
  · rw [if_neg hg] at h; exact absurd h (Nat.lt_irrefl 0)
/-- What is owed during the hops. -/
theorem above_ow {n : ℕ} (c : Dev nD) (a b e f : ℕ) (ha : n < 2 * a + 3) (hb : n < 2 * b + 3) (he : n < 2 * e + 4) (hf : n < 2 * f + 4) :
    Above n (ow c a b e f) := by
  have hR : ∀ δ h, n < 2 * h + 3 → Above n (oR δ c h) := fun δ h hh => above_sum _ _ fun i hi => by
    have hi' := Finset.mem_Ico.mp hi
    exact above_tally _ _ _ _ hi'.2 (by rw [lv_recv]; omega)
  have hC : ∀ δ h, n < 2 * h + 4 → Above n (oC δ c h) := fun δ h hh => above_sum _ _ fun i hi => by
    have hi' := Finset.mem_Ico.mp hi
    exact above_tally _ _ _ _ (by omega) (by rw [lv_credit]; omega)
  exact (((hR true a ha).add (hR false b hb)).add (hC true e he)).add (hC false f hf)
/-- What is owed at the start. -/
theorem above_O₀ (c : Dev nD) : Above 0 (O₀ c) :=
  ((above_ow c 0 0 0 0 (by omega) (by omega) (by omega) (by omega)).add (above_tally _ _ _ _ (by decide) (by rw [lv_bar]; decide))).add
    (above_tally _ _ _ _ (by decide) (by rw [lv_bar]; decide))

omit [FloatOps F] in
/-- A wait at a level below everything owed. -/
theorem mayWait (n : ℕ) (c : Dev nD) (sm : SemLoc sig) {i : ℕ} (hi : i < 14) (hl : lv ((c : Thread nD τ), sm) i ≤ n)
    {O : CellTallies nD τ sig ℕ} (hO : Above n O) : (levAts L lv : sProp 𝕄) ⊢ MayWait (c : Thread nD τ) sm i O :=
  MayOwe.of_cut (L := L) (lev := lv) n
    (fun p hp => by rw [Finset.mem_singleton.mp hp, L_tc]; exact Finset.mem_range.mpr hi)
    (fun g u hg => (hO g u hg).1)
    (fun p hp => by rw [Finset.mem_singleton.mp hp]; exact hl)
    (fun g u hg => (hO g u hg).2)

end Cert.KernelIdeal.RingProof

end
-- ==== Proof.Ops.lean ====
module

public import proofs.«01_k».proof.Proof.Protocol
public import Idealize.ShloMosaic.Lib.Pipeline.Value

@[expose] public section

/-!
# One operation at a time

What each operation of a hop needs and leaves, for one direction `δ`, on any device `c`, at any hop `h`. Each
statement has the shape "what is needed, and what follows from what is left, make the operation safe".
-/

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- No loop variants are needed. -/
abbrev 𝒱₀ : Variants := Variants.none

/-- Running a program on device `c`, to a postcondition. -/
abbrev WP (c : Dev nD) {α : Type} (p : P F α) (Q : α → sProp 𝕄) : sProp 𝕄 :=
  wp frame (wpE (defs₀ (F := F)) 𝒱₀ (c : Thread nD τ) none) Set.univ p Q

variable (cv : Bool → Dev nD → ℕ → Vec F S256x2048 .f32)
variable (K : Dev nD × CK → ℕ)

/-- What everybody knows: every semaphore follows the schedule, round 0 of each is open, and the order of waits. -/
def known : sProp 𝕄 :=
  iprop((bigSep Finset.univ fun ck : Dev nD × CK => cellInv ER (Rd cv) (K ck) (cell ck.1 ck.2))
    ∗ (bigSep Finset.univ fun ck : Dev nD × CK => reached ER (cell ck.1 ck.2) 0) ∗ levAts L lv)

instance known_persistent : BI.Persistent (known cv K) := by unfold known; infer_instance

/-- What holds of all semaphores holds of one. -/
theorem of_all (Φ : Dev nD × CK → sProp 𝕄) (ck : Dev nD × CK) : (bigSep Finset.univ Φ : sProp 𝕄) ⊢ Φ ck := bigSep_elim (Finset.mem_univ ck)

/-- One semaphore follows the schedule. -/
theorem known_inv (c : Dev nD) (k : CK) : known cv K ⊢ cellInv ER (Rd cv) (K (c, k)) (cell c k) := by
  unfold known
  iintro ⟨H, -, -⟩
  iapply (of_all (fun ck : Dev nD × CK => (cellInv ER (Rd cv) (K ck) (cell ck.1 ck.2) : sProp 𝕄)) (c, k))
  iexact H
/-- Round 0 of one semaphore is open. -/
theorem known_reached (c : Dev nD) (k : CK) : known cv K ⊢ reached ER (cell c k) 0 := by
  unfold known
  iintro ⟨-, H, -⟩
  iapply (of_all (fun ck : Dev nD × CK => (reached ER (cell ck.1 ck.2) 0 : sProp 𝕄)) (c, k))
  iexact H
/-- A wait below everything owed. -/
theorem known_wait (n : ℕ) (c : Dev nD) (sm : SemLoc sig) {i : ℕ} (hi : i < 14) (hl : lv ((c : Thread nD τ), sm) i ≤ n)
    {O : CellTallies nD τ sig ℕ} (hO : Above n O) : known cv K ⊢ MayWait (c : Thread nD τ) sm i O := by
  unfold known
  iintro ⟨-, -, H⟩
  iapply (mayWait n c sm hi hl hO)
  iexact H

/-- What the device owes, whatever it has waited for. -/
def due (c : Dev nD) (O : CellTallies nD τ sig ℕ) : sProp 𝕄 := iprop(∃ W, owes (c : Thread nD τ) O W)

/-- The device's place in the sequence of a slot's outgoing copies. -/
def posS (δ : Bool) (c : Dev nD) (h : ℕ) : sProp 𝕄 :=
  iprop(atPos ER (cell c (.send δ (sl h))) (h / 4) ∅ 0 ∗ reached ER (cell c (.send δ (sl h))) (h / 4))
/-- Its place in the sequence of a slot's incoming copies. -/
def posR (δ : Bool) (c : Dev nD) (h : ℕ) : sProp 𝕄 :=
  iprop(atPos ER (cell c (.recv δ (sl (h + 1)))) (h / 4) ∅ 0 ∗ reached ER (cell c (.recv δ (sl (h + 1)))) (h / 4))
/-- Its place in the sequence of a slot's copies to the result. -/
def posT (δ : Bool) (c : Dev nD) (i : ℕ) : sProp 𝕄 :=
  iprop(atPos ER (cell c (.store δ (sl (i + 7)))) (i / 4) ∅ 0 ∗ reached ER (cell c (.store δ (sl (i + 7)))) (i / 4))
/-- Its place among the slot credits: `m` of them taken. -/
def posC (δ : Bool) (c : Dev nD) (m : ℕ) : sProp 𝕄 :=
  iprop(∃ S : Finset ℕ, ⌜m + (Finset.range 11 \ S).card ≤ 11⌝ ∗ atPos ER (cell c (.credit δ)) 0 S m)

/-- A slot number repeats after four hops. -/
theorem sl_add (h k : ℕ) (hk : k % 4 = 0) : sl (h + k) = sl h := by unfold sl; exact Fin.ext (by show (h + k) % 4 = h % 4; omega)

/-- All slots' copies count for the same. -/
theorem slot_credit (δ : Bool) (j : Fin 4) : (slot δ j).view.dmaCredit = N := by
  rw [N_eq]
/-- And so do the copies to the result. -/
theorem out_credit (o : Fin 2 → ℕ) (ho : ∀ a, o a + S256x2048.size a ≤ S4096x2048.size a) : (outB o ho).view.dmaCredit = N := by
  rw [N_eq]

/-- Starting hop `h`'s copy to the next device. -/
theorem send_spec (δ : Bool) (c n : Dev nD) (hn : n = nx δ c) {h : ℕ} (hh : h < 14) (O₀ O : CellTallies nD τ sig ℕ)
    (hO : O₀ = O + tallyAt (cell (nx δ c) (.recv δ (sl (h + 1)))) h N) (Q : PUnit → sProp 𝕄) :
    iprop(known cv K ∗ owns (c : Thread nD τ) (slot δ (sl h)) fullShare.left (cv δ c h) ∗ free (nx δ c) δ (sl (h + 1))
        ∗ (if h < 12 then ride δ c h else emp) ∗ due c O₀
        ∗ dutyTok ER (cell c (.send δ (sl h))) (h / 4) 0 ∗ reached ER (cell c (.send δ (sl h))) (h / 4)
        ∗ dutyTok ER (cell (nx δ c) (.recv δ (sl (h + 1)))) (h / 4) 0 ∗ reached ER (cell (nx δ c) (.recv δ (sl (h + 1)))) (h / 4))
      ⊢ iprop(((cred (tallyAt (cell c (.send δ (sl h))) 0 N) ∗ due c O) -∗ Q ⟨⟩) -∗ WP c (sendOp δ (sl h) (sl (h + 1)) n) Q) := by
  subst hn
  unfold due owns free
  iintro ⟨#HK, ⟨%fs, %hfs, Hs⟩, ⟨%fd, Hd⟩, Hr, ⟨%W, HO⟩, Ht, Hrs, Ht', Hrd⟩ Hk
  unfold sendOp Prog.lift
  iapply (Rounds.wp_send_pointsTo_with 𝒱₀ ER (Rd cv) (c : Thread nD τ) none (κ₁ := K (c, .send δ (sl h))) (κ₂ := K (nx δ c, .recv δ (sl (h + 1))))
      (r₁ := h / 4) (r₂ := h / 4) (d₁ := 0) (d₂ := 0) (fs := fs) (fd := fd) (F := iprop(if h < 12 then ride δ c h else emp)) (W := W) (q := fullShare.left)
      (sS := csem (.send δ (sl h))) (sem := csem (.recv δ (sl (h + 1))))
      (by rw [Rd_duties cv c, dut_send δ hh]; exact Finset.mem_singleton_self _)
      (by rw [Rd_duties cv (nx δ c), dut_recv δ hh]; exact Finset.mem_singleton_self _)
      h 0 N (slot_credit δ _) (Rd_amount cv c _ _ _) (Rd_amount cv (nx δ c) _ _ _) O hO
      (by rw [Rd_payload cv c, pay_send]; unfold sendPay; rw [← hfs]; exact owns_intro _ _ _ _)
      (by
        rw [Rd_payload cv (nx δ c), pay_recv]; unfold recvPay; rw [pv_nx, ← hfs]
        exact sep_mono_left ((owns_intro _ _ _ _).trans (by rw [View.read_write_univ])))) $$ [Hs Hd Hr HO Ht Hrs Ht' Hrd]
  · isplitr; · iapply (known_inv cv K c (.send δ (sl h))); iexact HK
    isplitr; · iapply (known_inv cv K (nx δ c) (.recv δ (sl (h + 1)))); iexact HK
    isplitl [Hs]; · iexact Hs
    isplitl [Hd Hr]
    · isplitl [Hd]; · iexact Hd
      iexact Hr
    isplitl [HO]; · iexact HO
    isplitl [Ht]; · iexact Ht
    isplitl [Hrs]; · iexact Hrs
    isplitl [Ht']; · iexact Ht'
    iexact Hrd
  iintro ⟨Hc, HO⟩
  rw [wp_ret]; imodintro
  iapply Hk
  isplitl [Hc]; · iexact Hc
  iexists W; iexact HO

/-- Waiting for one round of a semaphore that has one duty there. -/
theorem wait_spec (c : Dev nD) (k : CK) (q : DmaSem sig) (hq : csem k = .dma q) (r i n : ℕ) (hi : i < 14) (hr : dut k r = {0}) (hk : amt k = N) (hl : lv (cell c k) i ≤ n)
    {sp sp' : Space} {s s' : Shape} {e e' : EltTy} (src : Memref sig .tc sp' s' e') (dst : Memref sig .tc sp s e)
    (hsrc : src.view.WordExact) (hdst : dst.view.WordExact) (hN : dst.view.dmaCredit = N)
    {O : CellTallies nD τ sig ℕ} (hO : Above n O) (Q : PUnit → sProp 𝕄) :
    iprop(known cv K ∗ cred (tallyAt (cell c k) i N) ∗ due c O ∗ atPos ER (cell c k) r ∅ 0)
      ⊢ iprop(((due c O ∗ (atPos ER (cell c k) (r + 1) ∅ 0 ∗ reached ER (cell c k) (r + 1)) ∗ pay cv c k r 0) -∗ Q ⟨⟩)
        -∗ WP c (Prog.lift (.waitDma2 q src dst hsrc hdst)) Q) := by
  unfold due Prog.lift
  iintro ⟨#HK, Hc, ⟨%W, HO⟩, Ha⟩ Hk
  iapply (Rounds.wp_wait_rest_token 𝒱₀ ER (Rd cv) (c : Thread nD τ) none (κ := K (c, k)) (sm := csem k) (k' := N)
      (fun Q' => by rw [hq, ← hN]; exact wpE_waitDma2_eq 𝒱₀ (c : Thread nD τ) none Set.univ Q') (Set.mem_univ _) i (O := O) (W := W) (R := r) (m := 0) (T := ∅)
      (by rw [Rd_expect cv c k, hr, hk, Finset.card_singleton, Nat.one_mul, Nat.zero_add])) $$ [Hc HO Ha]
  · isplitr; · iapply (known_inv cv K c k); iexact HK
    isplitl [Hc]; · iexact Hc
    isplitl [HO]; · iexact HO
    isplitr; · iapply (known_wait cv K n c (csem k) hi hl hO); iexact HK
    iexact Ha
  iintro ⟨HO, Ha, Hr, Hp⟩
  rw [wp_ret]; imodintro
  iapply Hk
  isplitl [HO]; · iexists _; iexact HO
  isplitl [Ha Hr]
  · isplitl [Ha]; · iexact Ha
    iexact Hr
  ihave Hp' := (Entails.of_eq (show bigSep ((Rd cv).duties (cell c k) r \ ∅) (fun d => (Rd cv).payload (cell c k) r d) = pay cv c k r 0 by
    rw [Finset.sdiff_empty, Rd_duties, hr, bigSep_singleton, Rd_payload])) $$ Hp
  iexact Hp'

/-- Waiting for hop `h`'s incoming copy. -/
theorem recv_spec (δ : Bool) (c : Dev nD) {h : ℕ} (hh : h < 14) {O : CellTallies nD τ sig ℕ} (hO : Above (2 * h + 3) O) (Q : PUnit → sProp 𝕄) :
    iprop(known cv K ∗ cred (tallyAt (cell c (.recv δ (sl (h + 1)))) h N) ∗ due c O ∗ posR δ c h)
      ⊢ iprop(((due c O ∗ posR δ c (h + 4) ∗ recvPay cv δ c h) -∗ Q ⟨⟩) -∗ WP c (recvW δ (sl h) (sl (h + 1))) Q) := by
  have hw := wait_spec cv K c (.recv δ (sl (h + 1))) _ rfl (h / 4) h (2 * h + 3) hh (dut_recv δ hh) rfl (by rw [lv_recv]) (slot δ (sl h)) (slot δ (sl (h + 1)))
    ((View.wordExact_bits rfl).reshape _ _) ((View.wordExact_bits rfl).reshape _ _) (slot_credit δ _) hO Q
  rw [pay_recv] at hw
  unfold posR
  rw [show h + 4 + 1 = h + 1 + 4 by omega, sl_add (h + 1) 4 rfl, show (h + 4) / 4 = h / 4 + 1 by omega]
  iintro ⟨HK, Hc, HO, ⟨Ha, -⟩⟩ Hk
  unfold recvW
  iapply hw $$ [HK Hc HO Ha] Hk
  isplitl [HK]; · iexact HK
  isplitl [Hc]; · iexact Hc
  isplitl [HO]; · iexact HO
  iexact Ha

/-- Waiting for hop `h`'s outgoing copy. -/
theorem sendW_spec (δ : Bool) (c : Dev nD) {h : ℕ} (hh : h < 14) {O : CellTallies nD τ sig ℕ} (hO : Above 0 O) (Q : PUnit → sProp 𝕄) :
    iprop(known cv K ∗ cred (tallyAt (cell c (.send δ (sl h))) 0 N) ∗ due c O ∗ posS δ c h)
      ⊢ iprop(((due c O ∗ posS δ c (h + 4) ∗ owns (c : Thread nD τ) (slot δ (sl h)) fullShare.left (cv δ c h)) -∗ Q ⟨⟩)
        -∗ WP c (sendW δ (sl h) (sl (h + 1))) Q) := by
  have hw := wait_spec cv K c (.send δ (sl h)) _ rfl (h / 4) 0 0 (by decide) (dut_send δ hh) rfl (by rw [lv_send]) (slot δ (sl (h + 1))) (slot δ (sl h))
    ((View.wordExact_bits rfl).reshape _ _) ((View.wordExact_bits rfl).reshape _ _) (slot_credit δ _) hO Q
  rw [pay_send] at hw
  unfold sendPay at hw
  unfold posS
  rw [sl_add h 4 rfl, show (h + 4) / 4 = h / 4 + 1 by omega]
  iintro ⟨HK, Hc, HO, ⟨Ha, -⟩⟩ Hk
  unfold sendW
  iapply hw $$ [HK Hc HO Ha] Hk
  isplitl [HK]; · iexact HK
  isplitl [Hc]; · iexact Hc
  isplitl [HO]; · iexact HO
  iexact Ha

/-- Starting hop `i + 6`'s copy to the result. -/
theorem store_spec (δ : Bool) (c : Dev nD) {i : ℕ} (hi : i < 8) (o : Fin 2 → ℕ) (ho : ∀ a, o a + S256x2048.size a ≤ S4096x2048.size a)
    (ho' : o = rowOff δ (ck δ c (i + 7))) (Q : PUnit → sProp 𝕄) :
    iprop(known cv K ∗ owns (c : Thread nD τ) (slot δ (sl (i + 7))) fullShare.right (cv δ c (i + 7)) ∗ outFree δ c (i + 6)
        ∗ dutyTok ER (cell c (.store δ (sl (i + 7)))) (i / 4) 0 ∗ reached ER (cell c (.store δ (sl (i + 7)))) (i / 4))
      ⊢ iprop((cred (tallyAt (cell c (.store δ (sl (i + 7)))) 0 N) -∗ Q ⟨⟩) -∗ WP c (storeOp δ (sl (i + 7)) o ho) Q) := by
  subst ho'
  unfold owns outFree
  iintro ⟨#HK, ⟨%fs, %hfs, Hs⟩, ⟨%fd, Hd⟩, Ht, Hr⟩ Hk
  unfold storeOp Prog.lift
  iapply (Rounds.wp_copy_pointsTo 𝒱₀ ER (Rd cv) (c : Thread nD τ) none (κ := K (c, .store δ (sl (i + 7)))) (r := i / 4) (d := 0) (fs := fs) (fd := fd)
      (q := fullShare.right) (sem := csem (.store δ (sl (i + 7))))
      (by rw [Rd_duties cv c, dut_store δ hi]; exact Finset.mem_singleton_self _) 0 N (out_credit _ _) (Rd_amount cv c _ _ _)
      (by
        rw [Rd_payload cv c, pay_store]; unfold storePay; rw [show i + 6 + 1 = i + 7 from rfl, ← hfs]
        exact (sep_mono_left ((owns_intro _ _ _ _).trans (by rw [View.read_write_univ]))).trans (sep_mono_right (owns_intro _ _ _ _)))) $$ [Hs Hd Ht Hr]
  · isplitr; · iapply (known_inv cv K c (.store δ (sl (i + 7)))); iexact HK
    isplitl [Hs]; · iexact Hs
    isplitl [Hd]; · iexact Hd
    isplitl [Ht]; · iexact Ht
    iexact Hr
  iintro Hc
  rw [wp_ret]; imodintro
  iapply Hk
  iexact Hc

/-- Waiting for hop `i + 6`'s copy to the result. -/
theorem storeW_spec (δ : Bool) (c : Dev nD) {i : ℕ} (hi : i < 8) (o : Fin 2 → ℕ) (ho : ∀ a, o a + S256x2048.size a ≤ S4096x2048.size a)
    {O : CellTallies nD τ sig ℕ} (hO : Above 0 O) (Q : PUnit → sProp 𝕄) :
    iprop(known cv K ∗ cred (tallyAt (cell c (.store δ (sl (i + 7)))) 0 N) ∗ due c O ∗ posT δ c i)
      ⊢ iprop(((due c O ∗ posT δ c (i + 4) ∗ storePay cv δ c (i + 6)) -∗ Q ⟨⟩) -∗ WP c (storeW δ (sl (i + 7)) o ho) Q) := by
  have hw := wait_spec cv K c (.store δ (sl (i + 7))) _ rfl (i / 4) 0 0 (by decide) (dut_store δ hi) rfl (by rw [lv_store]) (slot δ (sl (i + 7))) (outB o ho)
    ((View.wordExact_bits rfl).reshape _ _) (View.wordExact_bits rfl) (out_credit _ _) hO Q
  rw [pay_store] at hw
  unfold posT
  rw [show i + 4 + 7 = i + 7 + 4 by omega, sl_add (i + 7) 4 rfl, show (i + 4) / 4 = i / 4 + 1 by omega]
  iintro ⟨HK, Hc, HO, ⟨Ha, -⟩⟩ Hk
  unfold storeW
  iapply hw $$ [HK Hc HO Ha] Hk
  isplitl [HK]; · iexact HK
  isplitl [Hc]; · iexact Hc
  isplitl [HO]; · iexact HO
  iexact Ha

/-- Giving a slot credit. -/
theorem sig_spec (δ : Bool) (c n : Dev nD) (hn : n = pv δ c) {h : ℕ} (hh : h < 11) (O₀ O : CellTallies nD τ sig ℕ)
    (hO : O₀ = O + tallyAt (cell (pv δ c) (.credit δ)) h 1) (Q : PUnit → sProp 𝕄) :
    iprop(known cv K ∗ due c O₀ ∗ dutyTok ER (cell (pv δ c) (.credit δ)) 0 h)
      ⊢ iprop((due c O -∗ Q ⟨⟩) -∗ WP c (sigOp δ n) Q) := by
  subst hn
  unfold due
  iintro ⟨#HK, ⟨%W, HO⟩, Ht⟩ Hk
  unfold sigOp semSignalWord
  iapply (Rounds.wp_signal 𝒱₀ ER (Rd cv) (c : Thread nD τ) none (dst := (pv δ c : Thread nD τ)) (κ := K (pv δ c, .credit δ)) (r := 0) (d := h) (W := W)
      (by rw [show ((pv δ c : Thread nD τ), SemLoc.reg (credS δ).sem) = cell (pv δ c) (.credit δ) from rfl, Rd_duties]; exact Finset.mem_range.mpr hh)
      ((Rd_amount cv (pv δ c) (.credit δ) 0 h).trans (show 1 = (1#32).toInt.toNat from rfl)) h O hO) $$ [HO Ht]
  · isplitr; · iapply (known_inv cv K (pv δ c) (.credit δ)); iexact HK
    isplitl [HO]; · iexact HO
    isplitl [Ht]; · iexact Ht
    isplitr
    · rw [show ((pv δ c : Thread nD τ), SemLoc.reg (credS δ).sem) = cell (pv δ c) (.credit δ) from rfl, Rd_payload]
      unfold pay
      iempintro
    iapply (known_reached cv K (pv δ c) (.credit δ)); iexact HK
  iintro HO
  rw [wp_ret]; imodintro
  iapply Hk
  iexists W; iexact HO

/-- Taking a slot credit. -/
theorem credW_spec (δ : Bool) (c : Dev nD) {i : ℕ} (hi : i < 11) {O : CellTallies nD τ sig ℕ} (hO : Above (2 * i + 4) O) (Q : PUnit → sProp 𝕄) :
    iprop(known cv K ∗ cred (tallyAt (cell c (.credit δ)) i 1) ∗ due c O ∗ posC δ c i)
      ⊢ iprop(((due c O ∗ posC δ c (i + 1)) -∗ Q ⟨⟩) -∗ WP c (credW δ) Q) := by
  unfold due posC
  iintro ⟨#HK, Hc, ⟨%W, HO⟩, ⟨%T, %hT, Ha⟩⟩ Hk
  unfold credW semWaitWord
  iapply (Rounds.wp_wait 𝒱₀ ER (Rd cv) (c : Thread nD τ) none (κ := K (c, .credit δ)) (sm := csem (.credit δ)) (k' := 1)
      (wpE_semWait_eq 𝒱₀ (c : Thread nD τ) none Set.univ) (Set.mem_univ _) (cr := Finsupp.single i 1) (O := O) (W := W) {(csem (.credit δ), i)} (R := 0) (m := i) (T := T)
      (by rw [Util.total_single]) (image_single_subset (csem (.credit δ)) i 1)) $$ [Hc HO Ha]
  · isplitr; · iapply (known_inv cv K c (.credit δ)); iexact HK
    isplitl [Hc]; · iexact Hc
    isplitl [HO]; · iexact HO
    isplitr; · iapply (known_wait cv K (2 * i + 4) c (csem (.credit δ)) (i := i) (by omega) (by rw [lv_credit]) hO); iexact HK
    iexact Ha
  iintro %S ⟨%hS, HO, Ha, -⟩
  rw [wp_ret]; imodintro
  iapply Hk
  isplitl [HO]; · iexists _; iexact HO
  iexists S
  isplitr
  · ipureintro
    have h3 := hS.2.2
    rw [Rd_duties cv c (.credit δ), Rd_expect cv c (.credit δ)] at h3
    exact h3
  iexact Ha

/-! ## Memory -/

/-- The elements of a slot. -/
theorem slot_set (δ : Bool) (j : Fin 4) : (slot δ j).view.set = ((comm δ).access (slotR j)).set := View.set_reshape _ _

/-- Laying a matrix into a slot and looking at it again. -/
theorem dn_up (v : FVec F S256x2048 .f32) : dn (up v) = v := by
  unfold dn up; exact shapeCast_shapeCast _ _ _

/-- Reading a slot. -/
theorem ldS_spec (δ : Bool) (c : Dev nD) (j : Fin 4) (q : PosShare TreeShare) (v : FVec F S256x2048 .f32) (Q : Vec F S1x256x2048 .f32 → sProp 𝕄) :
    owns (c : Thread nD τ) (slot δ j) q v
      ⊢ iprop((∀ a, ⌜dn a = v⌝ -∗ owns (c : Thread nD τ) (slot δ j) q v -∗ Q a) -∗ WP c (ldS δ j) Q) := by
  unfold owns
  iintro ⟨%f, %hf, H⟩ Hk
  unfold ldS Prog.lift
  iapply (wp_load_rect 𝒱₀ (c : Thread nD τ) none Set.univ (m := comm δ) (r := slotR j) (S := (slot δ j).view.set)
    (subset_of_eq (slot_set δ j).symm)) $$ H
  iintro H
  rw [wp_ret]; imodintro
  iapply Hk
  · ipureintro; exact hf
  iexists f
  isplitr; · ipureintro; exact hf
  iexact H

/-- Overwriting a slot. -/
theorem stS_spec (δ : Bool) (c : Dev nD) (j : Fin 4) (v : FVec F S256x2048 .f32) (Q : PUnit → sProp 𝕄) :
    free c δ j ⊢ iprop((owns (c : Thread nD τ) (slot δ j) fullShare v -∗ Q ⟨⟩) -∗ WP c (stS δ j (up v)) Q) := by
  unfold owns free
  iintro ⟨%f, H⟩ Hk
  unfold stS Prog.lift
  iapply (wp_store 𝒱₀ (c : Thread nD τ) none Set.univ (m := comm δ) (r := slotR j) (Mk := Finset.univ) (S := (slot δ j).view.set)
    (by rw [slot_set]; exact subset_of_eq (View.setOn_univ _))) $$ H
  iintro H
  rw [wp_ret]; imodintro
  iapply Hk
  iexists _
  isplitr
  rotate_left
  · iexact H
  ipureintro
  show dn (((comm δ).access (slotR j)).read (Elt F) (((comm δ).access (slotR j)).write (Elt F) f (up v) Finset.univ)) = v
  rw [View.read_write_univ, dn_up]

/-- Any contents will do. -/
theorem owns_free (δ : Bool) (c : Dev nD) (j : Fin 4) (v : FVec F S256x2048 .f32) :
    owns (c : Thread nD τ) (slot δ j) fullShare v ⊢ (free c δ j : sProp 𝕄) := by
  unfold owns free
  iintro ⟨%f, -, H⟩
  iexists f; iexact H

/-- Reading rows of a local array. -/
theorem ldX_spec (c : Dev nD) (o : Fin 2 → ℕ) (ho : ∀ a, o a + S256x512.size a ≤ S4096x512.size a)
    (f : (cc0_stg0_0 : Ref sig .tc).ty.Contents (Elt F)) (Q : Vec F S256x512 .f32 → sProp 𝕄) :
    (((c : Thread nD τ).loc cc0_stg0_0) ↦{fullShare} f)
      ⊢ iprop(((((c : Thread nD τ).loc cc0_stg0_0) ↦{fullShare} f) -∗ Q ((Memref.whole cc0_stg0_0).view.readAt (Elt F) (rowsR o ho).toLoadRect f))
        -∗ WP c (ldX (Memref.whole cc0_stg0_0) o ho) Q) := by
  iintro H Hk
  unfold ldX Prog.lift
  iapply (wp_load 𝒱₀ (c : Thread nD τ) none Set.univ (m := (Memref.whole cc0_stg0_0 : Memref sig .tc .vmem S4096x512 .f32)) (Finset.subset_univ _)) $$ H
  iintro H
  rw [wp_ret]; imodintro
  iapply Hk; iexact H

/-- Reading the local weights. -/
theorem ldW_spec (c : Dev nD) (f : (cc0_stg1_0 : Ref sig .tc).ty.Contents (Elt F)) (Q : Vec F S512x2048 .f32 → sProp 𝕄) :
    (((c : Thread nD τ).loc cc0_stg1_0) ↦{fullShare} f)
      ⊢ iprop(((((c : Thread nD τ).loc cc0_stg1_0) ↦{fullShare} f) -∗ Q f) -∗ WP c (ldW (Memref.whole cc0_stg1_0)) Q) := by
  iintro H Hk
  unfold ldW Prog.lift
  iapply (wp_load 𝒱₀ (c : Thread nD τ) none Set.univ (m := (Memref.whole cc0_stg1_0 : Memref sig .tc .vmem S512x2048 .f32)) (Finset.subset_univ _)) $$ H
  iintro H
  rw [wp_ret, show (Memref.whole cc0_stg1_0 : Memref sig .tc .vmem S512x2048 .f32).view.readAt (Elt F) wR.toLoadRect f = f from
    Memref.readAt_unit_zero (Elt F) cc0_stg1_0 (off := ![0, 0]) (funext fun a => by fin_cases a <;> rfl) _ f]; imodintro
  iapply Hk; iexact H

end Cert.KernelIdeal.RingProof

end
-- ==== Proof.Stages.lean ====
module

public import proofs.«01_k».proof.Proof.Ops
public import Idealize.ShloMosaic.Lib.MemrefSat

@[expose] public section

/-!
# One stage of a hop at a time

A hop is a sequence of stages, each the same operation for both directions of the ring. Here is what a device
holds between the stages of hop `h`, and that each stage takes it from one to the next, at any hop.
-/

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- Running one program after another. -/
theorem WP_bind (c : Dev nD) {α β : Type} (p : P F α) (k : α → P F β) (Q : β → sProp 𝕄) :
    WP c (p >>= k) Q = WP c p fun a => WP c (k a) Q := wp_bind _ _ _ p k Q

/-- Running nothing. -/
theorem WP_pure (c : Dev nD) {α : Type} (a : α) (Q : α → sProp 𝕄) : WP c (pure a) Q = iprop(|={Set.univ}=> Q a) := rfl

/-- Something of each direction. -/
def both (Φ : Bool → sProp 𝕄) : sProp 𝕄 := iprop(Φ true ∗ Φ false)

omit [FloatOps F] in
/-- The first of a range. -/
theorem range_cons {a b : ℕ} (h : a < b) (Φ : ℕ → sProp 𝕄) : bigSep (Finset.Ico a b) Φ = iprop(Φ a ∗ bigSep (Finset.Ico (a + 1) b) Φ) := by
  rw [Ico_cons h, bigSep_insert (notMem_Ico _ _)]; rfl
omit [FloatOps F] in
/-- The last of a range. -/
theorem range_snoc {a b : ℕ} (h : a ≤ b) (Φ : ℕ → sProp 𝕄) : bigSep (Finset.Ico a (b + 1)) Φ = iprop(Φ b ∗ bigSep (Finset.Ico a b) Φ) := by
  rw [show Finset.Ico a (b + 1) = insert b (Finset.Ico a b) by ext x; simp only [Finset.mem_Ico, Finset.mem_insert]; omega,
    bigSep_insert (by simp only [Finset.mem_Ico]; omega)]; rfl

/-- Four consecutive members of a sequence. Taking the head off and putting the one after the last in moves it on. -/
def conv (Φ : ℕ → sProp 𝕄) (h : ℕ) : sProp 𝕄 := iprop(Φ h ∗ Φ (h + 1) ∗ Φ (h + 2) ∗ Φ (h + 3))

/-- What is dealt to a device for one hop of a direction. -/
def tok (δ : Bool) (c : Dev nD) (i : ℕ) : sProp 𝕄 :=
  iprop(dutyTok ER (cell c (.send δ (sl i))) (i / 4) 0 ∗ dutyTok ER (cell (nx δ c) (.recv δ (sl (i + 1)))) (i / 4) 0
    ∗ cred (tallyAt (cell c (.recv δ (sl (i + 1)))) i N))
/-- What is dealt for the hops from `h` on. -/
def toks (δ : Bool) (c : Dev nD) (h : ℕ) : sProp 𝕄 := bigSep (Finset.Ico h 14) (tok δ c)
/-- The slot that hop `i`'s copy is to fill, ready to be filled; hops end at 14. -/
def dst (δ : Bool) (c : Dev nD) (i : ℕ) : sProp 𝕄 :=
  if i < 14 then iprop(free (nx δ c) δ (sl (i + 1)) ∗ reached ER (cell (nx δ c) (.recv δ (sl (i + 1)))) (i / 4)) else iprop(emp)
/-- The device's own slot that nothing occupies during hop `h`, as long as it will be filled again. -/
def fr (δ : Bool) (c : Dev nD) (h : ℕ) : sProp 𝕄 := if h < 12 then free c δ (sl (h + 3)) else iprop(emp)

/-- A direction at the start of a hop, the contents of the current slot aside. -/
def H (δ : Bool) (c : Dev nD) (h : ℕ) : sProp 𝕄 :=
  iprop(toks δ c h ∗ conv (posS δ c) h ∗ conv (posR δ c) h ∗ fr δ c h ∗ dst δ c h ∗ dst δ c (h + 1))
/-- A direction after the send. -/
def H₁ (δ : Bool) (c : Dev nD) (h : ℕ) : sProp 𝕄 :=
  iprop(toks δ c (h + 1) ∗ cred (tallyAt (cell c (.recv δ (sl (h + 1)))) h N) ∗ cred (tallyAt (cell c (.send δ (sl h))) 0 N)
    ∗ conv (posS δ c) h ∗ conv (posR δ c) h ∗ dst δ c (h + 1))
/-- A direction after the wait for what the neighbour sends. -/
def H₂ (δ : Bool) (c : Dev nD) (h : ℕ) : sProp 𝕄 :=
  iprop(toks δ c (h + 1) ∗ cred (tallyAt (cell c (.send δ (sl h))) 0 N) ∗ conv (posS δ c) h ∗ conv (posR δ c) (h + 1)
    ∗ dst δ c (h + 1) ∗ dst δ c (h + 2))
/-- A direction after the wait for its own copy. -/
def H₃ (δ : Bool) (c : Dev nD) (h : ℕ) : sProp 𝕄 :=
  iprop(toks δ c (h + 1) ∗ conv (posS δ c) (h + 1) ∗ conv (posR δ c) (h + 1) ∗ dst δ c (h + 1) ∗ dst δ c (h + 2))

/-- The next hop starts where this one ends, once the slot this one sent from is free. -/
theorem H_next (δ : Bool) (c : Dev nD) (h : ℕ) : iprop(H₃ (F := F) δ c h ∗ fr δ c (h + 1)) ⊢ H δ c (h + 1) := by
  unfold H₃ H
  iintro ⟨⟨Ht, HS, HR, Hd, Hd'⟩, Hf⟩
  isplitl [Ht]; · iexact Ht
  isplitl [HS]; · iexact HS
  isplitl [HR]; · iexact HR
  isplitl [Hf]; · iexact Hf
  isplitl [Hd]; · iexact Hd
  iexact Hd'

variable (cv : Bool → Dev nD → ℕ → Vec F S256x2048 .f32)
variable (K : Dev nD × CK → ℕ)

/-- The left half of a slot, which a send reads. -/
abbrev lh (δ : Bool) (c : Dev nD) (h : ℕ) : sProp 𝕄 := owns (c : Thread nD τ) (slot δ (sl h)) fullShare.left (cv δ c h)
/-- The right half of a slot, which a copy to the result reads. -/
abbrev rh (δ : Bool) (c : Dev nD) (h : ℕ) : sProp 𝕄 := owns (c : Thread nD τ) (slot δ (sl h)) fullShare.right (cv δ c h)
/-- A whole slot. -/
abbrev wh (δ : Bool) (c : Dev nD) (h : ℕ) : sProp 𝕄 := owns (c : Thread nD τ) (slot δ (sl h)) fullShare (cv δ c h)

/-- What rides with a send: the other direction's free slot. -/
theorem fr_ride (δ : Bool) (c : Dev nD) (h : ℕ) :
    iprop(fr (F := F) (!δ) c h ∗ reached ER (cell c (.recv (!δ) (sl (h + 3)))) ((h + 2) / 4)) ⊢ (if h < 12 then ride δ c h else emp) := by
  unfold fr ride
  by_cases h12 : h < 12
  · rw [if_pos h12, if_pos h12]
  · rw [if_neg h12, if_neg h12]
    iintro ⟨-, -⟩
    iempintro

/-- The send of one direction. -/
theorem send_one (δ : Bool) (c n : Dev nD) (hn : n = nx δ c) {h : ℕ} (hh : h < 14) (O₀ O : CellTallies nD τ sig ℕ)
    (hO : O₀ = O + tallyAt (cell (nx δ c) (.recv δ (sl (h + 1)))) h N) (Q : PUnit → sProp 𝕄) :
    iprop(known cv K ∗ lh cv δ c h ∗ due c O₀ ∗ toks δ c h ∗ conv (posS δ c) h ∗ dst δ c h ∗ fr (!δ) c h
        ∗ reached ER (cell c (.recv (!δ) (sl (h + 3)))) ((h + 2) / 4))
      ⊢ iprop(((due c O ∗ toks δ c (h + 1) ∗ cred (tallyAt (cell c (.recv δ (sl (h + 1)))) h N) ∗ cred (tallyAt (cell c (.send δ (sl h))) 0 N)
          ∗ conv (posS δ c) h) -∗ Q ⟨⟩) -∗ WP c (sendOp δ (sl h) (sl (h + 1)) n) Q) := by
  unfold toks dst conv
  rw [range_cons hh, if_pos hh]
  unfold tok
  rw [posS]
  iintro ⟨HK, Hl, HO, ⟨⟨Ht, Ht', Hc⟩, Hts⟩, ⟨⟨Ha, #Hr⟩, HS⟩, ⟨Hd, Hd'⟩, Hf, #Hr'⟩ Hk
  iapply (send_spec cv K δ c n hn hh O₀ O hO Q) $$ [HK Hl HO Ht Ht' Hd Hd' Hf]
  · isplitl [HK]; · iexact HK
    isplitl [Hl]; · iexact Hl
    isplitl [Hd]; · iexact Hd
    isplitl [Hf]
    · iapply (fr_ride δ c h)
      isplitl [Hf]; · iexact Hf
      iexact Hr'
    isplitl [HO]; · iexact HO
    isplitl [Ht]; · iexact Ht
    isplitr; · iexact Hr
    isplitl [Ht']; · iexact Ht'
    iexact Hd'
  iintro ⟨Hcs, HO⟩
  iapply Hk
  isplitl [HO]; · iexact HO
  isplitl [Hts]; · iexact Hts
  isplitl [Hc]; · iexact Hc
  isplitl [Hcs]; · iexact Hcs
  isplitl [Ha]
  · isplitl [Ha]; · iexact Ha
    iexact Hr
  iexact HS

/-- Where the incoming copies of the hop after the next one stand. -/
theorem conv_reached (δ : Bool) (c : Dev nD) (h : ℕ) :
    conv (F := F) (posR δ c) h ⊢ iprop(conv (posR δ c) h ∗ reached ER (cell c (.recv δ (sl (h + 3)))) ((h + 2) / 4)) := by
  unfold conv posR
  iintro ⟨H0, H1, ⟨H2, #Hr⟩, H3⟩
  isplitl [H0 H1 H2 H3]
  · isplitl [H0]; · iexact H0
    isplitl [H1]; · iexact H1
    isplitl [H2]
    · isplitl [H2]; · iexact H2
      iexact Hr
    iexact H3
  iexact Hr

/-- Both sends. -/
theorem send_stage (c nR nL : Dev nD) (hR : nR = nx true c) (hL : nL = nx false c) {h : ℕ} (hh : h < 14) (e : ℕ) (Q : PUnit → sProp 𝕄) :
    iprop(known cv K ∗ due c (ow c h h e e) ∗ both (fun δ => iprop(lh cv δ c h ∗ H δ c h)))
      ⊢ iprop(((due c (ow c (h + 1) (h + 1) e e) ∗ both (fun δ => H₁ δ c h)) -∗ Q ⟨⟩) -∗ WP c (send2 (sl h) (sl (h + 1)) nR nL) Q) := by
  unfold both H H₁
  beta_reduce
  iintro ⟨#HK, HO, ⟨⟨Hl, Ht, HS, HR, Hf, Hd, He⟩, ⟨Hl', Ht', HS', HR', Hf', Hd', He'⟩⟩⟩ Hk
  ihave HR := (conv_reached true c h) $$ HR
  ihave HR' := (conv_reached false c h) $$ HR'
  icases HR with ⟨HR, #Hr⟩
  icases HR' with ⟨HR', #Hr'⟩
  unfold send2
  rw [WP_bind]
  iapply (send_one cv K true c nR hR hh _ _ (ow_sendT c h e e hh) _) $$ [Hl HO Ht HS Hd Hf']
  · isplitr; · iexact HK
    isplitl [Hl]; · iexact Hl
    isplitl [HO]; · iexact HO
    isplitl [Ht]; · iexact Ht
    isplitl [HS]; · iexact HS
    isplitl [Hd]; · iexact Hd
    isplitl [Hf']; · iexact Hf'
    iexact Hr'
  iintro ⟨HO, Ht, Hc, Hcs, HS⟩
  iapply (send_one cv K false c nL hL hh _ _ (ow_sendF c (h + 1) e e hh) _) $$ [Hl' HO Ht' HS' Hd' Hf]
  · isplitr; · iexact HK
    isplitl [Hl']; · iexact Hl'
    isplitl [HO]; · iexact HO
    isplitl [Ht']; · iexact Ht'
    isplitl [HS']; · iexact HS'
    isplitl [Hd']; · iexact Hd'
    isplitl [Hf]; · iexact Hf
    iexact Hr
  iintro ⟨HO, Ht', Hc', Hcs', HS'⟩
  iapply Hk
  isplitl [HO]; · iexact HO
  isplitl [Ht Hc Hcs HS HR He]
  · isplitl [Ht]; · iexact Ht
    isplitl [Hc]; · iexact Hc
    isplitl [Hcs]; · iexact Hcs
    isplitl [HS]; · iexact HS
    isplitl [HR]; · iexact HR
    iexact He
  isplitl [Ht']; · iexact Ht'
  isplitl [Hc']; · iexact Hc'
  isplitl [Hcs']; · iexact Hcs'
  isplitl [HS']; · iexact HS'
  isplitl [HR']; · iexact HR'
  iexact He'

/-- Both sends, the slots and the rest apart. -/
theorem send_stage' (c nR nL : Dev nD) (hR : nR = nx true c) (hL : nL = nx false c) {h : ℕ} (hh : h < 14) (e : ℕ) (Q : PUnit → sProp 𝕄) :
    iprop(known cv K ∗ due c (ow c h h e e) ∗ both (fun δ => lh cv δ c h) ∗ both (fun δ => H δ c h))
      ⊢ iprop(((due c (ow c (h + 1) (h + 1) e e) ∗ both (fun δ => H₁ δ c h)) -∗ Q ⟨⟩) -∗ WP c (send2 (sl h) (sl (h + 1)) nR nL) Q) := by
  refine BIBase.Entails.trans ?_ (send_stage cv K c nR nL hR hL hh e Q)
  unfold both
  beta_reduce
  iintro ⟨HK, HO, ⟨Hl, Hl'⟩, HH, HH'⟩
  isplitl [HK]; · iexact HK
  isplitl [HO]; · iexact HO
  isplitl [Hl HH]
  · isplitl [Hl]; · iexact Hl
    iexact HH
  isplitl [Hl']; · iexact Hl'
  iexact HH'

/-- What rides with an incoming copy is the slot for the other direction's copy two hops on. -/
theorem ride_dst (δ : Bool) (c : Dev nD) (h : ℕ) : (if h < 12 then ride (F := F) δ (pv δ c) h else emp) ⊢ dst (!δ) c (h + 2) := by
  unfold dst ride
  by_cases h12 : h < 12
  · rw [if_pos h12, if_pos (by omega), nx_not]
  · rw [if_neg h12, if_neg (by omega)]

/-- Both waits for what the neighbours send. -/
theorem recv_stage (c : Dev nD) {h : ℕ} (hh : h < 14) (Q : PUnit → sProp 𝕄) :
    iprop(known cv K ∗ due c (ow c (h + 1) (h + 1) h h) ∗ both (fun δ => H₁ δ c h))
      ⊢ iprop(((due c (ow c (h + 1) (h + 1) h h) ∗ both (fun δ => H₂ δ c h)
          ∗ both (fun δ => owns (c : Thread nD τ) (slot δ (sl (h + 1))) fullShare (cv δ (pv δ c) h))) -∗ Q ⟨⟩) -∗ WP c (recv2 (sl h) (sl (h + 1))) Q) := by
  unfold both H₁ H₂ conv
  beta_reduce
  have hab : Above (2 * h + 3) (ow c (h + 1) (h + 1) h h) := above_ow c _ _ _ _ (by omega) (by omega) (by omega) (by omega)
  have hrT : (if h < 12 then ride (F := F) true (pv true c) h else emp) ⊢ dst false c (h + 2) := ride_dst true c h
  have hrF : (if h < 12 then ride (F := F) false (pv false c) h else emp) ⊢ dst true c (h + 2) := ride_dst false c h
  iintro ⟨#HK, HO, ⟨Ht, Hc, Hcs, HS, ⟨P0, P1, P2, P3⟩, Hd⟩, ⟨Ht', Hc', Hcs', HS', ⟨P0', P1', P2', P3'⟩, Hd'⟩⟩ Hk
  unfold recv2
  rw [WP_bind]
  iapply (recv_spec cv K true c hh hab _) $$ [HO Hc P0]
  · isplitr; · iexact HK
    isplitl [Hc]; · iexact Hc
    isplitl [HO]; · iexact HO
    iexact P0
  unfold recvPay
  iintro ⟨HO, P4, Hv, Hr⟩
  iapply (recv_spec cv K false c hh hab _) $$ [HO Hc' P0']
  · isplitr; · iexact HK
    isplitl [Hc']; · iexact Hc'
    isplitl [HO]; · iexact HO
    iexact P0'
  unfold recvPay
  iintro ⟨HO, P4', Hv', Hr'⟩
  ihave Hr := hrT $$ Hr
  ihave Hr' := hrF $$ Hr'
  iapply Hk
  isplitl [HO]; · iexact HO
  isplitr [Hv Hv']
  · isplitl [Ht Hcs HS P1 P2 P3 P4 Hd Hr']
    · isplitl [Ht]; · iexact Ht
      isplitl [Hcs]; · iexact Hcs
      isplitl [HS]; · iexact HS
      isplitl [P1 P2 P3 P4]
      · isplitl [P1]; · iexact P1
        isplitl [P2]; · iexact P2
        isplitl [P3]; · iexact P3
        iexact P4
      isplitl [Hd]; · iexact Hd
      iexact Hr'
    isplitl [Ht']; · iexact Ht'
    isplitl [Hcs']; · iexact Hcs'
    isplitl [HS']; · iexact HS'
    isplitl [P1' P2' P3' P4']
    · isplitl [P1']; · iexact P1'
      isplitl [P2']; · iexact P2'
      isplitl [P3']; · iexact P3'
      iexact P4'
    isplitl [Hd']; · iexact Hd'
    iexact Hr
  isplitl [Hv]; · iexact Hv
  iexact Hv'

/-- Both waits for the outgoing copies. -/
theorem sendW_stage (c : Dev nD) {h : ℕ} (hh : h < 14) {O : CellTallies nD τ sig ℕ} (hO : Above 0 O) (Q : PUnit → sProp 𝕄) :
    iprop(known cv K ∗ due c O ∗ both (fun δ => H₂ δ c h))
      ⊢ iprop(((due c O ∗ both (fun δ => H₃ δ c h) ∗ both (fun δ => lh cv δ c h)) -∗ Q ⟨⟩) -∗ WP c (sendW2 (sl h) (sl (h + 1))) Q) := by
  unfold both H₂ H₃ conv
  beta_reduce
  iintro ⟨#HK, HO, ⟨Ht, Hc, ⟨P0, P1, P2, P3⟩, HR, Hd⟩, ⟨Ht', Hc', ⟨P0', P1', P2', P3'⟩, HR', Hd'⟩⟩ Hk
  unfold sendW2
  rw [WP_bind]
  iapply (sendW_spec cv K true c hh hO _) $$ [HO Hc P0]
  · isplitr; · iexact HK
    isplitl [Hc]; · iexact Hc
    isplitl [HO]; · iexact HO
    iexact P0
  iintro ⟨HO, P4, Hv⟩
  iapply (sendW_spec cv K false c hh hO _) $$ [HO Hc' P0']
  · isplitr; · iexact HK
    isplitl [Hc']; · iexact Hc'
    isplitl [HO]; · iexact HO
    iexact P0'
  iintro ⟨HO, P4', Hv'⟩
  iapply Hk
  isplitl [HO]; · iexact HO
  isplitr [Hv Hv']
  · isplitl [Ht P1 P2 P3 P4 HR Hd]
    · isplitl [Ht]; · iexact Ht
      isplitl [P1 P2 P3 P4]
      · isplitl [P1]; · iexact P1
        isplitl [P2]; · iexact P2
        isplitl [P3]; · iexact P3
        iexact P4
      isplitl [HR]; · iexact HR
      iexact Hd
    isplitl [Ht']; · iexact Ht'
    isplitl [P1' P2' P3' P4']
    · isplitl [P1']; · iexact P1'
      isplitl [P2']; · iexact P2'
      isplitl [P3']; · iexact P3'
      iexact P4'
    isplitl [HR']; · iexact HR'
    iexact Hd'
  isplitl [Hv]; · iexact Hv
  iexact Hv'

/-! ## Slot credits -/

/-- The right to give credits from hop `h` on. -/
def Cg (δ : Bool) (c : Dev nD) (h : ℕ) : sProp 𝕄 := bigSep (Finset.Ico h 11) fun i => dutyTok ER (cell (pv δ c) (.credit δ)) 0 i
/-- The credits to be taken from the `m`-th on, and the place among them. -/
def Cw (δ : Bool) (c : Dev nD) (m : ℕ) : sProp 𝕄 :=
  iprop(posC δ c m ∗ bigSep (Finset.Ico m 11) fun i => cred (tallyAt (cell c (.credit δ)) i 1))

/-- Both credits given. -/
theorem sig_stage (c kL kR : Dev nD) (hL : kL = pv true c) (hR : kR = pv false c) {h : ℕ} (hh : h < 11) (a : ℕ) (Q : PUnit → sProp 𝕄) :
    iprop(known cv K ∗ due c (ow c a a h h) ∗ both (fun δ => Cg δ c h))
      ⊢ iprop(((due c (ow c a a (h + 1) (h + 1)) ∗ both (fun δ => Cg δ c (h + 1))) -∗ Q ⟨⟩) -∗ WP c (sig2 kL kR) Q) := by
  unfold both Cg
  beta_reduce
  rw [range_cons hh, range_cons hh]
  iintro ⟨#HK, HO, ⟨Ht, Hts⟩, ⟨Ht', Hts'⟩⟩ Hk
  unfold sig2
  rw [WP_bind]
  iapply (sig_spec cv K true c kL hL hh _ _ (ow_credT c a a h hh) _) $$ [HO Ht]
  · isplitr; · iexact HK
    isplitl [HO]; · iexact HO
    iexact Ht
  iintro HO
  iapply (sig_spec cv K false c kR hR hh _ _ (ow_credF c a a (h + 1) hh) _) $$ [HO Ht']
  · isplitr; · iexact HK
    isplitl [HO]; · iexact HO
    iexact Ht'
  iintro HO
  iapply Hk
  isplitl [HO]; · iexact HO
  isplitl [Hts]; · iexact Hts
  iexact Hts'

/-- Both credits taken. -/
theorem cred_stage (c : Dev nD) {m : ℕ} (hm : m < 11) (Q : PUnit → sProp 𝕄) :
    iprop(known cv K ∗ due c (ow c (m + 3) (m + 3) (m + 3) (m + 3)) ∗ both (fun δ => Cw δ c m))
      ⊢ iprop(((due c (ow c (m + 3) (m + 3) (m + 3) (m + 3)) ∗ both (fun δ => Cw δ c (m + 1))) -∗ Q ⟨⟩) -∗ WP c cred2 Q) := by
  unfold both Cw
  beta_reduce
  rw [range_cons hm, range_cons hm]
  have hab : Above (2 * m + 4) (ow c (m + 3) (m + 3) (m + 3) (m + 3)) := above_ow c _ _ _ _ (by omega) (by omega) (by omega) (by omega)
  iintro ⟨#HK, HO, ⟨Hp, Hc, Hcs⟩, ⟨Hp', Hc', Hcs'⟩⟩ Hk
  unfold cred2
  rw [WP_bind]
  iapply (credW_spec cv K true c hm hab _) $$ [HO Hc Hp]
  · isplitr; · iexact HK
    isplitl [Hc]; · iexact Hc
    isplitl [HO]; · iexact HO
    iexact Hp
  iintro ⟨HO, Hp⟩
  iapply (credW_spec cv K false c hm hab _) $$ [HO Hc' Hp']
  · isplitr; · iexact HK
    isplitl [Hc']; · iexact Hc'
    isplitl [HO]; · iexact HO
    iexact Hp'
  iintro ⟨HO, Hp'⟩
  iapply Hk
  isplitl [HO]; · iexact HO
  isplitl [Hp Hcs]
  · isplitl [Hp]; · iexact Hp
    iexact Hcs
  isplitl [Hp']; · iexact Hp'
  iexact Hcs'

/-! ## Copies to the result -/

/-- A direction's copies to the result: those before `a` done, those from `a` to `b` under way, those from `b` on to come. -/
def T (δ : Bool) (c : Dev nD) (a b : ℕ) : sProp 𝕄 :=
  iprop((bigSep (Finset.Ico b 8) fun i => iprop(dutyTok ER (cell c (.store δ (sl (i + 7)))) (i / 4) 0 ∗ outFree δ c (i + 6)))
    ∗ (bigSep (Finset.Ico a b) fun i => cred (tallyAt (cell c (.store δ (sl (i + 7)))) 0 N))
    ∗ conv (posT δ c) a
    ∗ (bigSep (Finset.Ico 0 a) fun i => owns (c : Thread nD τ) (outAt δ c (i + 6)) fullShare (cv δ c (i + 7))))

/-- Where the copies to the result stand. -/
theorem conv_reachedT (δ : Bool) (c : Dev nD) {a b : ℕ} (hab : a ≤ b) (hba : b < a + 4) :
    conv (F := F) (posT δ c) a ⊢ iprop(conv (posT δ c) a ∗ reached ER (cell c (.store δ (sl (b + 7)))) (b / 4)) := by
  obtain ⟨k, rfl⟩ := Nat.exists_eq_add_of_le hab
  have hk : k < 4 := by omega
  unfold conv posT
  iintro ⟨⟨H0, #R0⟩, ⟨H1, #R1⟩, ⟨H2, #R2⟩, ⟨H3, #R3⟩⟩
  isplitl [H0 H1 H2 H3]
  · isplitl [H0]
    · isplitl [H0]; · iexact H0
      iexact R0
    isplitl [H1]
    · isplitl [H1]; · iexact H1
      iexact R1
    isplitl [H2]
    · isplitl [H2]; · iexact H2
      iexact R2
    isplitl [H3]; · iexact H3
    iexact R3
  match k, hk with
  | 0, _ => iexact R0
  | 1, _ => iexact R1
  | 2, _ => iexact R2
  | 3, _ => iexact R3

/-- Starting a direction's next copy to the result. -/
theorem store_one (δ : Bool) (c : Dev nD) {a b : ℕ} (hab : a ≤ b) (hba : b < a + 4) (hb : b < 8)
    (o : Fin 2 → ℕ) (ho : ∀ a, o a + S256x2048.size a ≤ S4096x2048.size a) (ho' : o = rowOff δ (ck δ c (b + 7))) (Q : PUnit → sProp 𝕄) :
    iprop(known cv K ∗ rh cv δ c (b + 7) ∗ T cv δ c a b)
      ⊢ iprop((T cv δ c a (b + 1) -∗ Q ⟨⟩) -∗ WP c (storeOp δ (sl (b + 7)) o ho) Q) := by
  unfold T
  rw [range_cons hb, range_snoc hab]
  iintro ⟨#HK, Hr, ⟨⟨Ht, Ho⟩, Hts⟩, Hcs, HP, HD⟩ Hk
  ihave HP := (conv_reachedT δ c hab hba) $$ HP
  icases HP with ⟨HP, #HR⟩
  iapply (store_spec cv K δ c hb o ho ho' _) $$ [Hr Ht Ho]
  · isplitr; · iexact HK
    isplitl [Hr]; · iexact Hr
    isplitl [Ho]; · iexact Ho
    isplitl [Ht]; · iexact Ht
    iexact HR
  iintro Hc
  iapply Hk
  isplitl [Hts]; · iexact Hts
  isplitl [Hc Hcs]
  · isplitl [Hc]; · iexact Hc
    iexact Hcs
  isplitl [HP]; · iexact HP
  iexact HD

/-- Starting both copies to the result. -/
theorem store_stage (c : Dev nD) {a b : ℕ} (hab : a ≤ b) (hba : b < a + 4) (hb : b < 8)
    (o₁ : Fin 2 → ℕ) (h₁ : ∀ a, o₁ a + S256x2048.size a ≤ S4096x2048.size a) (o₂ : Fin 2 → ℕ) (h₂ : ∀ a, o₂ a + S256x2048.size a ≤ S4096x2048.size a)
    (e₁ : o₁ = rowOff true (ck true c (b + 7))) (e₂ : o₂ = rowOff false (ck false c (b + 7))) (Q : PUnit → sProp 𝕄) :
    iprop(known cv K ∗ both (fun δ => rh cv δ c (b + 7)) ∗ both (fun δ => T cv δ c a b))
      ⊢ iprop((both (fun δ => T cv δ c a (b + 1)) -∗ Q ⟨⟩) -∗ WP c (store2 (sl (b + 7)) o₁ h₁ o₂ h₂) Q) := by
  unfold both
  beta_reduce
  iintro ⟨#HK, ⟨Hr, Hr'⟩, ⟨HT, HT'⟩⟩ Hk
  unfold store2
  rw [WP_bind]
  iapply (store_one cv K true c hab hba hb o₁ h₁ e₁ _) $$ [Hr HT]
  · isplitr; · iexact HK
    isplitl [Hr]; · iexact Hr
    iexact HT
  iintro HT
  iapply (store_one cv K false c hab hba hb o₂ h₂ e₂ _) $$ [Hr' HT']
  · isplitr; · iexact HK
    isplitl [Hr']; · iexact Hr'
    iexact HT'
  iintro HT'
  iapply Hk
  isplitl [HT]; · iexact HT
  iexact HT'

/-- Waiting for a direction's oldest copy to the result. -/
theorem storeW_one (δ : Bool) (c : Dev nD) {a b : ℕ} (hab : a < b) (ha : a < 8) {O : CellTallies nD τ sig ℕ} (hO : Above 0 O)
    (o : Fin 2 → ℕ) (ho : ∀ a, o a + S256x2048.size a ≤ S4096x2048.size a) (Q : PUnit → sProp 𝕄) :
    iprop(known cv K ∗ due c O ∗ T cv δ c a b)
      ⊢ iprop(((due c O ∗ T cv δ c (a + 1) b ∗ rh cv δ c (a + 7)) -∗ Q ⟨⟩) -∗ WP c (storeW δ (sl (a + 7)) o ho) Q) := by
  unfold T conv
  rw [range_cons hab, range_snoc (Nat.zero_le a)]
  iintro ⟨#HK, HO, Hts, ⟨Hc, Hcs⟩, ⟨P0, P1, P2, P3⟩, HD⟩ Hk
  iapply (storeW_spec cv K δ c ha o ho hO _) $$ [HO Hc P0]
  · isplitr; · iexact HK
    isplitl [Hc]; · iexact Hc
    isplitl [HO]; · iexact HO
    iexact P0
  unfold storePay
  iintro ⟨HO, P4, Hv, Hr⟩
  iapply Hk
  isplitl [HO]; · iexact HO
  isplitr [Hr]
  · isplitl [Hts]; · iexact Hts
    isplitl [Hcs]; · iexact Hcs
    isplitl [P1 P2 P3 P4]
    · isplitl [P1]; · iexact P1
      isplitl [P2]; · iexact P2
      isplitl [P3]; · iexact P3
      iexact P4
    isplitl [Hv]; · iexact Hv
    iexact HD
  iexact Hr

/-- Waiting for both directions' oldest copy to the result. -/
theorem storeW_stage (c : Dev nD) {a b : ℕ} (hab : a < b) (ha : a < 8) {O : CellTallies nD τ sig ℕ} (hO : Above 0 O)
    (o₁ : Fin 2 → ℕ) (h₁ : ∀ a, o₁ a + S256x2048.size a ≤ S4096x2048.size a) (o₂ : Fin 2 → ℕ) (h₂ : ∀ a, o₂ a + S256x2048.size a ≤ S4096x2048.size a)
    (Q : PUnit → sProp 𝕄) :
    iprop(known cv K ∗ due c O ∗ both (fun δ => T cv δ c a b))
      ⊢ iprop(((due c O ∗ both (fun δ => T cv δ c (a + 1) b) ∗ both (fun δ => rh cv δ c (a + 7))) -∗ Q ⟨⟩)
        -∗ WP c (storeW2 (sl (a + 7)) o₁ h₁ o₂ h₂) Q) := by
  unfold both
  beta_reduce
  iintro ⟨#HK, HO, HT, HT'⟩ Hk
  unfold storeW2
  rw [WP_bind]
  iapply (storeW_one cv K true c hab ha hO o₁ h₁ _) $$ [HO HT]
  · isplitr; · iexact HK
    isplitl [HO]; · iexact HO
    iexact HT
  iintro ⟨HO, HT, Hr⟩
  iapply (storeW_one cv K false c hab ha hO o₂ h₂ _) $$ [HO HT']
  · isplitr; · iexact HK
    isplitl [HO]; · iexact HO
    iexact HT'
  iintro ⟨HO, HT', Hr'⟩
  iapply Hk
  isplitl [HO]; · iexact HO
  isplitl [HT HT']
  · isplitl [HT]; · iexact HT
    iexact HT'
  isplitl [Hr]; · iexact Hr
  iexact Hr'

end Cert.KernelIdeal.RingProof

end
-- ==== Proof.Body.lean ====
module

public import proofs.«01_k».proof.Proof.Stages

@[expose] public section

/-!
# The body of the kernel on one device

The contents of the slots in closed form, the five kinds of hop, and the whole body as the chain of them.
-/

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (X : Dev nD → (cc0_stg0_0 : Ref sig .tc).ty.Contents (Elt F)) (Wt : Dev nD → (cc0_stg1_0 : Ref sig .tc).ty.Contents (Elt F))
variable (K : Dev nD × CK → ℕ)

/-- A device's partial product for a direction's half of chunk `j`. -/
def prod (δ : Bool) (c : Dev nD) (j : Fin 8) : FVec F S256x2048 .f32 :=
  mm ((Memref.whole cc0_stg0_0).view.readAt (Elt F) (rowsR (rowOff δ j) (rowOff_x δ j)).toLoadRect (X c)) (Wt c)

/-- What a direction's slot holds at the start of hop `h`, by recursion on the hop. -/
def cvR (δ : Bool) : ℕ → Dev nD → FVec F S256x2048 .f32
  | 0, c => prod X Wt δ c (ck δ c 0)
  | h + 1, c => if h < 7 then fin h (addf (cvR δ h (pv δ c)) (prod X Wt δ c (ck δ c (h + 1)))) else cvR δ h (pv δ c)
/-- The same, device before hop. -/
def cvF (δ : Bool) (c : Dev nD) (h : ℕ) : Vec F S256x2048 .f32 := cvR X Wt δ h c

/-- The local inputs. -/
def xw (c : Dev nD) : sProp 𝕄 :=
  iprop((((c : Thread nD τ).loc cc0_stg0_0) ↦{fullShare} X c) ∗ (((c : Thread nD τ).loc cc0_stg1_0) ↦{fullShare} Wt c))

/-- The copy of the local inputs that the body's operations read. -/
abbrev xM : Memref sig .tc .vmem S4096x512 .f32 := Memref.whole cc0_stg0_0
/-- The copy of the local inputs that the body's operations read. -/
abbrev wM : Memref sig .tc .vmem S512x2048 .f32 := Memref.whole cc0_stg1_0

/-- One direction's partial product. -/
theorem prod_one (δ : Bool) (c : Dev nD) (j : Fin 8) (o : Fin 2 → ℕ) (ho : ∀ a, o a + S256x512.size a ≤ S4096x512.size a) (e : o = rowOff δ j)
    {β : Type} (k : FVec F S256x2048 .f32 → P F β) (Q : β → sProp 𝕄) :
    xw X Wt c ⊢ iprop((xw X Wt c -∗ WP c (k (prod X Wt δ c j)) Q) -∗ WP c (ldX xM o ho >>= fun a => ldW wM >>= fun b => k (mm a b)) Q) := by
  subst e
  unfold xw
  iintro ⟨Hx, Hw⟩ Hk
  rw [WP_bind]
  iapply (ldX_spec c _ ho (X c) _) $$ Hx
  iintro Hx
  rw [WP_bind]
  iapply (ldW_spec c (Wt c) _) $$ Hw
  iintro Hw
  iapply Hk
  isplitl [Hx]; · iexact Hx
  iexact Hw

/-- Both partial products. -/
theorem part_stage (c : Dev nD) (j j' : Fin 8)
    (o₁ : Fin 2 → ℕ) (h₁ : ∀ a, o₁ a + S256x512.size a ≤ S4096x512.size a) (o₂ : Fin 2 → ℕ) (h₂ : ∀ a, o₂ a + S256x512.size a ≤ S4096x512.size a)
    (e₁ : o₁ = rowOff true j) (e₂ : o₂ = rowOff false j') (Q : FVec F S256x2048 .f32 × FVec F S256x2048 .f32 → sProp 𝕄) :
    xw X Wt c ⊢ iprop((xw X Wt c -∗ Q (prod X Wt true c j, prod X Wt false c j')) -∗ WP c (part2 xM wM o₁ h₁ o₂ h₂) Q) := by
  iintro Hx Hk
  unfold part2
  iapply (prod_one X Wt true c j o₁ h₁ e₁ (fun p => ldX xM o₂ h₂ >>= fun a' => ldW wM >>= fun b' => pure (p, mm a' b')) Q) $$ Hx
  iintro Hx
  iapply (prod_one X Wt false c j' o₂ h₂ e₂ (fun p => pure (prod X Wt true c j, p)) Q) $$ Hx
  iintro Hx
  rw [WP_pure]; imodintro
  iapply Hk; iexact Hx

/-- A slot at any contents holds something. -/
theorem free_owns (δ : Bool) (c : Dev nD) (j : Fin 4) : free (F := F) c δ j ⊢ iprop(∃ v, owns (c : Thread nD τ) (slot δ j) fullShare v) := by
  unfold free owns
  iintro ⟨%f, H⟩
  iexists _; iexists f
  isplitr; · ipureintro; rfl
  iexact H

/-- Overwriting a slot that holds something. -/
theorem stS_owned (δ : Bool) (c : Dev nD) (j : Fin 4) (v v' : FVec F S256x2048 .f32) (Q : PUnit → sProp 𝕄) :
    owns (c : Thread nD τ) (slot δ j) fullShare v ⊢ iprop((owns (c : Thread nD τ) (slot δ j) fullShare v' -∗ Q ⟨⟩) -∗ WP c (stS δ j (up v')) Q) :=
  (owns_free δ c j v).trans (stS_spec δ c j v' Q)

/-- The first two partial products, each into its slot 0. -/
theorem first_stage (c : Dev nD)
    (o₁ : Fin 2 → ℕ) (h₁ : ∀ a, o₁ a + S256x512.size a ≤ S4096x512.size a) (o₂ : Fin 2 → ℕ) (h₂ : ∀ a, o₂ a + S256x512.size a ≤ S4096x512.size a)
    (e₁ : o₁ = rowOff true (ck true c 0)) (e₂ : o₂ = rowOff false (ck false c 0)) (Q : PUnit → sProp 𝕄) :
    iprop(xw X Wt c ∗ both (fun δ => free c δ (sl 0)))
      ⊢ iprop(((xw X Wt c ∗ both (fun δ => wh (cvF X Wt) δ c 0)) -∗ Q ⟨⟩) -∗ WP c (first2 xM wM o₁ h₁ o₂ h₂) Q) := by
  unfold both
  beta_reduce
  iintro ⟨Hx, Hf, Hf'⟩ Hk
  ihave Hf := (free_owns true c (sl 0)) $$ Hf
  icases Hf with ⟨%v, Hf⟩
  ihave Hf' := (free_owns false c (sl 0)) $$ Hf'
  icases Hf' with ⟨%v', Hf'⟩
  unfold first2
  iapply (prod_one X Wt true c _ o₁ h₁ e₁ (fun p => ldS true (sl 0) >>= fun _ => stS true (sl 0) (up p) >>= fun _ =>
    ldX xM o₂ h₂ >>= fun a => ldW wM >>= fun b => ldS false (sl 0) >>= fun _ => stS false (sl 0) (up (mm a b))) Q) $$ Hx
  iintro Hx
  rw [WP_bind]
  iapply (ldS_spec true c (sl 0) fullShare v _) $$ Hf
  iintro %a %_ Hf
  rw [WP_bind]
  iapply (stS_owned true c (sl 0) v _ _) $$ Hf
  iintro Hf
  iapply (prod_one X Wt false c _ o₂ h₂ e₂ (fun p => ldS false (sl 0) >>= fun _ => stS false (sl 0) (up p)) Q) $$ Hx
  iintro Hx
  rw [WP_bind]
  iapply (ldS_spec false c (sl 0) fullShare v' _) $$ Hf'
  iintro %a %_ Hf'
  iapply (stS_owned false c (sl 0) v' _ _) $$ Hf'
  iintro Hf'
  iapply Hk
  isplitl [Hx]; · iexact Hx
  isplitl [Hf]; · iexact Hf
  iexact Hf'

/-- Adding the partial products to what has arrived. -/
theorem acc_stage (c : Dev nD) {h : ℕ} (hh : h < 7) (Q : PUnit → sProp 𝕄) :
    both (fun δ => owns (c : Thread nD τ) (slot δ (sl (h + 1))) fullShare (cvF X Wt δ (pv δ c) h))
      ⊢ iprop((both (fun δ => wh (cvF X Wt) δ c (h + 1)) -∗ Q ⟨⟩)
        -∗ WP c (acc2 h (sl (h + 1)) (prod X Wt true c (ck true c (h + 1)), prod X Wt false c (ck false c (h + 1)))) Q) := by
  have hv : ∀ δ, cvF X Wt δ c (h + 1) = fin h (addf (cvF X Wt δ (pv δ c) h) (prod X Wt δ c (ck δ c (h + 1)))) := fun δ => by
    unfold cvF; rw [cvR, if_pos hh]
  unfold both wh
  beta_reduce
  rw [hv, hv]
  iintro ⟨Ha, Hb⟩ Hk
  unfold acc2
  rw [WP_bind]
  iapply (ldS_spec true c (sl (h + 1)) fullShare _ _) $$ Ha
  iintro %a %ha Ha
  rw [WP_bind]
  iapply (ldS_spec false c (sl (h + 1)) fullShare _ _) $$ Hb
  iintro %b %hb Hb
  rw [ha, hb, WP_bind]
  iapply (ldS_spec true c (sl (h + 1)) fullShare _ _) $$ Ha
  iintro %a' %_ Ha
  rw [WP_bind]
  iapply (stS_owned true c (sl (h + 1)) _ _ _) $$ Ha
  iintro Ha
  rw [WP_bind]
  iapply (ldS_spec false c (sl (h + 1)) fullShare _ _) $$ Hb
  iintro %b' %_ Hb
  iapply (stS_owned false c (sl (h + 1)) _ _ _) $$ Hb
  iintro Hb
  iapply Hk
  isplitl [Ha]; · iexact Ha
  iexact Hb

/-- From hop 7 on what has arrived is final. -/
theorem cv_late (δ : Bool) (c : Dev nD) {h : ℕ} (hh : 7 ≤ h) : cvF X Wt δ (pv δ c) h = cvF X Wt δ c (h + 1) := by
  unfold cvF; rw [cvR, if_neg (by omega)]

/-! ## The barrier -/

/-- What a device needs for the barrier. -/
def barIn (c : Dev nD) : sProp 𝕄 :=
  iprop(dutyTok ER (cell (pv true c) .bar) 0 1 ∗ dutyTok ER (cell (pv false c) .bar) 0 0 ∗ cred (tallyAt (cell c .bar) 0 2)
    ∗ atPos ER (cell c .bar) 0 ∅ 0 ∗ both (fun δ => iprop(free c δ (sl 1) ∗ free c δ (sl 2))))

variable (cv : Bool → Dev nD → ℕ → Vec F S256x2048 .f32)

/-- One barrier increment. -/
theorem bar_signal (δ : Bool) (c n : Dev nD) (hn : n = pv δ c) (O₀ O : CellTallies nD τ sig ℕ) (d : ℕ) (hd : d = if δ then 1 else 0)
    (hO : O₀ = O + tallyAt (cell (pv δ c) .bar) 0 1) (Q : PUnit → sProp 𝕄) :
    iprop(known cv K ∗ due c O₀ ∗ dutyTok ER (cell (pv δ c) .bar) 0 d ∗ free c δ (sl 1) ∗ free c δ (sl 2))
      ⊢ iprop((due c O -∗ Q ⟨⟩) -∗ WP c (semSignalWord n barA.sem 1#32) Q) := by
  subst hn
  unfold due
  iintro ⟨#HK, ⟨%W, HO⟩, Ht, Hf, Hf'⟩ Hk
  unfold semSignalWord
  iapply (Rounds.wp_signal 𝒱₀ ER (Rd cv) (c : Thread nD τ) none (dst := (pv δ c : Thread nD τ)) (κ := K (pv δ c, .bar)) (r := 0) (d := d) (W := W)
      (by rw [show ((pv δ c : Thread nD τ), SemLoc.reg barA.sem) = cell (pv δ c) .bar from rfl, Rd_duties, hd]; cases δ <;> decide)
      ((Rd_amount cv (pv δ c) .bar 0 d).trans (show 1 = (1#32).toInt.toNat from rfl)) 0 O hO) $$ [HO Ht Hf Hf']
  · isplitr; · iapply (known_inv cv K (pv δ c) .bar); iexact HK
    isplitl [HO]; · iexact HO
    isplitl [Ht]; · iexact Ht
    isplitl [Hf Hf']
    · rw [show ((pv δ c : Thread nD τ), SemLoc.reg barA.sem) = cell (pv δ c) .bar from rfl, Rd_payload]
      have hp : pay cv (pv δ c) .bar 0 d = iprop(free c δ (sl 1) ∗ free c δ (sl 2)) := by
        show barPay (d == 1) (pv δ c) = _
        unfold barPay; rw [show (d == 1) = δ by subst hd; cases δ <;> rfl, nx_pv]
      rw [hp]
      isplitl [Hf]; · iexact Hf
      iexact Hf'
    iapply (known_reached cv K (pv δ c) .bar); iexact HK
  iintro HO
  rw [wp_ret]; imodintro
  iapply Hk
  iexists W; iexact HO

/-- The slots that a barrier's increments hand over. -/
theorem barPay_dst (δ : Bool) (c : Dev nD) : iprop(known cv K ∗ barPay (F := F) δ c) ⊢ iprop(dst δ c 0 ∗ dst δ c 1) := by
  unfold barPay dst
  rw [if_pos (by decide), if_pos (by decide)]
  iintro ⟨#HK, Ha, Hb⟩
  isplitl [Ha]
  · isplitl [Ha]; · iexact Ha
    iapply (known_reached cv K (nx δ c) (.recv δ (sl (0 + 1)))); iexact HK
  isplitl [Hb]; · iexact Hb
  iapply (known_reached cv K (nx δ c) (.recv δ (sl (1 + 1)))); iexact HK

/-- The barrier. -/
theorem bar_stage (c l r : Dev nD) (hl : l = pv true c) (hr : r = pv false c) (Q : PUnit → sProp 𝕄) :
    iprop(known cv K ∗ due c (O₀ c) ∗ barIn c)
      ⊢ iprop(((due c (ow c 0 0 0 0) ∗ both (fun δ => iprop(dst δ c 0 ∗ dst δ c 1)) ∗ atPos ER (cell c .bar) 1 ∅ 0) -∗ Q ⟨⟩)
        -∗ WP c (bar2 l r) Q) := by
  unfold barIn both
  beta_reduce
  iintro ⟨#HK, HO, Ht, Ht', Hc, Ha, ⟨H1, H2⟩, ⟨H1', H2'⟩⟩ Hk
  unfold bar2
  rw [WP_bind]
  iapply (bar_signal K cv true c l hl (O₀ c) (O₁ c) 1 rfl rfl _) $$ [HO Ht H1 H2]
  · isplitr; · iexact HK
    isplitl [HO]; · iexact HO
    isplitl [Ht]; · iexact Ht
    isplitl [H1]; · iexact H1
    iexact H2
  iintro HO
  rw [WP_bind]
  iapply (bar_signal K cv false c r hr (O₁ c) (ow c 0 0 0 0) 0 rfl rfl _) $$ [HO Ht' H1' H2']
  · isplitr; · iexact HK
    isplitl [HO]; · iexact HO
    isplitl [Ht']; · iexact Ht'
    isplitl [H1']; · iexact H1'
    iexact H2'
  unfold due
  iintro ⟨%W, HO⟩
  unfold semWaitWord
  have hab : Above 1 (ow c 0 0 0 0) := above_ow c _ _ _ _ (by omega) (by omega) (by omega) (by omega)
  iapply (Rounds.wp_wait_rest_token 𝒱₀ ER (Rd cv) (c : Thread nD τ) none (κ := K (c, .bar)) (sm := csem .bar) (k' := 2)
      (wpE_semWait_eq 𝒱₀ (c : Thread nD τ) none Set.univ) (Set.mem_univ _) 0 (O := ow c 0 0 0 0) (W := W) (R := 0) (m := 0) (T := ∅)
      (by rw [Rd_expect cv c .bar]; rfl)) $$ [Hc HO Ha]
  · isplitr; · iapply (known_inv cv K c .bar); iexact HK
    isplitl [Hc]; · iexact Hc
    isplitl [HO]; · iexact HO
    isplitr; · iapply (known_wait cv K 1 c (csem .bar) (i := 0) (by decide) (by rw [lv_bar]) hab); iexact HK
    iexact Ha
  iintro ⟨HO, Ha, -, Hp⟩
  rw [wp_ret]; imodintro
  ihave Hp := (Entails.of_eq (show bigSep ((Rd cv).duties (cell c .bar) 0 \ ∅) (fun d => (Rd cv).payload (cell c .bar) 0 d) = iprop(barPay false c ∗ barPay true c) by
    rw [Finset.sdiff_empty, Rd_duties, show dut .bar 0 = insert 0 {1} from rfl, bigSep_insert (by decide), bigSep_singleton, Rd_payload, Rd_payload]; rfl)) $$ Hp
  icases Hp with ⟨Hf, Ht⟩
  iapply Hk
  isplitl [HO]; · iexists _; iexact HO
  isplitl [Hf Ht]
  · isplitl [Ht]
    · iapply (barPay_dst K cv true c)
      isplitr; · iexact HK
      iexact Ht
    iapply (barPay_dst K cv false c)
    isplitr; · iexact HK
    iexact Hf
  iexact Ha

/-! ## The hops -/

/-- The halves of both slots. -/
theorem both_split (c : Dev nD) (h : ℕ) : both (fun δ => wh cv δ c h) ⊢ iprop(both (fun δ => lh cv δ c h) ∗ both (fun δ => rh cv δ c h)) := by
  unfold both
  beta_reduce
  iintro ⟨H, H'⟩
  ihave H := (owns_halves (c : Thread nD τ) (slot true (sl h)) fullShare (cv true c h)).1 $$ H
  ihave H' := (owns_halves (c : Thread nD τ) (slot false (sl h)) fullShare (cv false c h)).1 $$ H'
  icases H with ⟨Hl, Hr⟩
  icases H' with ⟨Hl', Hr'⟩
  isplitl [Hl Hl']
  · isplitl [Hl]; · iexact Hl
    iexact Hl'
  isplitl [Hr]; · iexact Hr
  iexact Hr'

/-- A slot whose halves have come back is free. -/
theorem freed (δ : Bool) (c : Dev nD) (h : ℕ) : iprop(lh cv δ c h ∗ rh cv δ c h) ⊢ free c δ (sl h) :=
  (owns_halves (c : Thread nD τ) (slot δ (sl h)) fullShare (cv δ c h)).2.trans (owns_free δ c (sl h) _)

/-- The next hop, before hop 11: the slot sent from is free again. -/
theorem next_early (c : Dev nD) {h : ℕ} (hh : h < 11) :
    iprop(both (fun δ => H₃ (F := F) δ c h) ∗ both (fun δ => lh cv δ c h) ∗ both (fun δ => rh cv δ c h)) ⊢ both (fun δ => H δ c (h + 1)) := by
  have hf : ∀ δ, iprop(lh cv δ c h ∗ rh cv δ c h) ⊢ fr δ c (h + 1) := fun δ => by
    unfold fr; rw [if_pos (by omega), show h + 1 + 3 = h + 4 from rfl, sl_add h 4 rfl]; exact freed cv δ c h
  unfold both
  beta_reduce
  iintro ⟨⟨H, H'⟩, ⟨Hl, Hl'⟩, Hr, Hr'⟩
  isplitl [H Hl Hr]
  · iapply (H_next true c h)
    isplitl [H]; · iexact H
    iapply (hf true)
    isplitl [Hl]; · iexact Hl
    iexact Hr
  iapply (H_next false c h)
  isplitl [H']; · iexact H'
  iapply (hf false)
  isplitl [Hl']; · iexact Hl'
  iexact Hr'

/-- The next hop, from hop 11 on: no slot needs to be free any more. -/
theorem next_late (c : Dev nD) {h : ℕ} (hh : 11 ≤ h) : both (fun δ => H₃ (F := F) δ c h) ⊢ both (fun δ => H δ c (h + 1)) := by
  have hf : ∀ δ, (iprop(emp) : sProp 𝕄) ⊢ fr δ c (h + 1) := fun δ => by unfold fr; rw [if_neg (by omega)]
  unfold both
  beta_reduce
  iintro ⟨H, H'⟩
  isplitl [H]
  · iapply (H_next true c h)
    isplitl [H]; · iexact H
    iapply (hf true); iempintro
  iapply (H_next false c h)
  isplitl [H']; · iexact H'
  iapply (hf false); iempintro

/-- What a device holds at the start of hop `h`: it has taken `m` credits, `a` of its copies to the result are done
    and `b` begun, and `A` of its current slots. -/
def St (c : Dev nD) (h m a b : ℕ) (A : Bool → sProp 𝕄) : sProp 𝕄 :=
  iprop(known (cvF X Wt) K ∗ due c (ow c h h h h) ∗ xw X Wt c ∗ both (fun δ => H δ c h) ∗ both (fun δ => Cg δ c h) ∗ both (fun δ => Cw δ c m)
    ∗ both (fun δ => T (cvF X Wt) δ c a b) ∗ both A)

/-- Taking credits, before hop `m + 3`. -/
theorem hop_cred (c : Dev nD) {m : ℕ} (hm : m < 11) (a b : ℕ) (A : Bool → sProp 𝕄) (R : sProp 𝕄) (rest : P F PUnit) (Q : PUnit → sProp 𝕄)
    (hrest : iprop(St X Wt K c (m + 3) (m + 1) a b A ∗ R) ⊢ WP c rest Q) :
    iprop(St X Wt K c (m + 3) m a b A ∗ R) ⊢ WP c (do cred2; rest) Q := by
  refine BIBase.Entails.trans ?_ (Entails.of_eq (WP_bind c _ _ Q).symm)
  unfold St at *
  iintro ⟨⟨#HK, HO, Hx, HH, Hg, Hw, HT, HA⟩, HR⟩
  iapply (cred_stage (cvF X Wt) K c hm _) $$ [HO Hw]
  · isplitr; · iexact HK
    isplitl [HO]; · iexact HO
    iexact Hw
  iintro ⟨HO, Hw⟩
  iapply hrest
  isplitr [HR]
  · isplitr; · iexact HK
    isplitl [HO]; · iexact HO
    isplitl [Hx]; · iexact Hx
    isplitl [HH]; · iexact HH
    isplitl [Hg]; · iexact Hg
    isplitl [Hw]; · iexact Hw
    isplitl [HT]; · iexact HT
    iexact HA
  iexact HR

/-- A hop that adds and does not store: hops 0 to 5. -/
theorem hop_add (c nR nL kL kR : Dev nD) (hR : nR = nx true c) (hL : nL = nx false c) (hkL : kL = pv true c) (hkR : kR = pv false c)
    {h : ℕ} (hh : h < 6) (m : ℕ)
    (o₁ : Fin 2 → ℕ) (h₁ : ∀ a, o₁ a + S256x512.size a ≤ S4096x512.size a) (o₂ : Fin 2 → ℕ) (h₂ : ∀ a, o₂ a + S256x512.size a ≤ S4096x512.size a)
    (e₁ : o₁ = rowOff true (ck true c (h + 1))) (e₂ : o₂ = rowOff false (ck false c (h + 1)))
    (R : sProp 𝕄) (rest : P F PUnit) (Q : PUnit → sProp 𝕄)
    (hrest : iprop(St X Wt K c (h + 1) m 0 0 (fun δ => wh (cvF X Wt) δ c (h + 1)) ∗ R) ⊢ WP c rest Q) :
    iprop(St X Wt K c h m 0 0 (fun δ => wh (cvF X Wt) δ c h) ∗ R) ⊢ WP c (do
      send2 (sl h) (sl (h + 1)) nR nL
      let p ← part2 xM wM o₁ h₁ o₂ h₂
      recv2 (sl h) (sl (h + 1))
      acc2 h (sl (h + 1)) p
      sendW2 (sl h) (sl (h + 1))
      sig2 kL kR
      rest) Q := by
  unfold St at *
  iintro ⟨⟨#HK, HO, Hx, HH, Hg, Hw, HT, HA⟩, HR⟩
  ihave HA := (both_split (cvF X Wt) c h) $$ HA
  icases HA with ⟨HA, HB⟩
  rw [WP_bind]
  iapply (send_stage' (cvF X Wt) K c nR nL hR hL (h := h) (by omega) h _) $$ [HO HA HH]
  · isplitr; · iexact HK
    isplitl [HO]; · iexact HO
    isplitl [HA]; · iexact HA
    iexact HH
  iintro ⟨HO, HH⟩
  rw [WP_bind]
  iapply (part_stage X Wt c _ _ o₁ h₁ o₂ h₂ e₁ e₂ _) $$ Hx
  iintro Hx
  rw [WP_bind]
  iapply (recv_stage (cvF X Wt) K c (h := h) (by omega) _) $$ [HO HH]
  · isplitr; · iexact HK
    isplitl [HO]; · iexact HO
    iexact HH
  iintro ⟨HO, HH, HA⟩
  rw [WP_bind]
  iapply (acc_stage X Wt c (h := h) (by omega) _) $$ HA
  iintro HA
  rw [WP_bind]
  iapply (sendW_stage (cvF X Wt) K c (h := h) (by omega) (above_ow c _ _ _ _ (by omega) (by omega) (by omega) (by omega)) _) $$ [HO HH]
  · isplitr; · iexact HK
    isplitl [HO]; · iexact HO
    iexact HH
  iintro ⟨HO, HH, HC⟩
  rw [WP_bind]
  iapply (sig_stage (cvF X Wt) K c kL kR hkL hkR (h := h) (by omega) (h + 1) _) $$ [HO Hg]
  · isplitr; · iexact HK
    isplitl [HO]; · iexact HO
    iexact Hg
  iintro ⟨HO, Hg⟩
  iapply hrest
  isplitr [HR]
  · isplitr; · iexact HK
    isplitl [HO]; · iexact HO
    isplitl [Hx]; · iexact Hx
    isplitl [HH HC HB]
    · iapply (next_early (cvF X Wt) c (h := h) (by omega))
      isplitl [HH]; · iexact HH
      isplitl [HC]; · iexact HC
      iexact HB
    isplitl [Hg]; · iexact Hg
    isplitl [Hw]; · iexact Hw
    isplitl [HT]; · iexact HT
    iexact HA
  iexact HR

/-- Hop 6, which adds, applies the activation and stores. -/
theorem hop_mid (c nR nL kL kR : Dev nD) (hR : nR = nx true c) (hL : nL = nx false c) (hkL : kL = pv true c) (hkR : kR = pv false c) (m : ℕ)
    (o₁ : Fin 2 → ℕ) (h₁ : ∀ a, o₁ a + S256x512.size a ≤ S4096x512.size a) (o₂ : Fin 2 → ℕ) (h₂ : ∀ a, o₂ a + S256x512.size a ≤ S4096x512.size a)
    (e₁ : o₁ = rowOff true (ck true c 7)) (e₂ : o₂ = rowOff false (ck false c 7))
    (o₃ : Fin 2 → ℕ) (h₃ : ∀ a, o₃ a + S256x2048.size a ≤ S4096x2048.size a) (o₄ : Fin 2 → ℕ) (h₄ : ∀ a, o₄ a + S256x2048.size a ≤ S4096x2048.size a)
    (e₃ : o₃ = rowOff true (ck true c 7)) (e₄ : o₄ = rowOff false (ck false c 7))
    (R : sProp 𝕄) (rest : P F PUnit) (Q : PUnit → sProp 𝕄)
    (hrest : iprop(St X Wt K c 7 m 0 1 (fun δ => lh (cvF X Wt) δ c 7) ∗ R) ⊢ WP c rest Q) :
    iprop(St X Wt K c 6 m 0 0 (fun δ => wh (cvF X Wt) δ c 6) ∗ R) ⊢ WP c (do
      send2 (sl 6) (sl 7) nR nL
      let p ← part2 xM wM o₁ h₁ o₂ h₂
      recv2 (sl 6) (sl 7)
      acc2 6 (sl 7) p
      store2 (sl 7) o₃ h₃ o₄ h₄
      sendW2 (sl 6) (sl 7)
      sig2 kL kR
      rest) Q := by
  unfold St at *
  iintro ⟨⟨#HK, HO, Hx, HH, Hg, Hw, HT, HA⟩, HR⟩
  ihave HA := (both_split (cvF X Wt) c 6) $$ HA
  icases HA with ⟨HA, HB⟩
  rw [WP_bind]
  iapply (send_stage' (cvF X Wt) K c nR nL hR hL (by omega) 6 _) $$ [HO HA HH]
  · isplitr; · iexact HK
    isplitl [HO]; · iexact HO
    isplitl [HA]; · iexact HA
    iexact HH
  iintro ⟨HO, HH⟩
  rw [WP_bind]
  iapply (part_stage X Wt c _ _ o₁ h₁ o₂ h₂ e₁ e₂ _) $$ Hx
  iintro Hx
  rw [WP_bind]
  iapply (recv_stage (cvF X Wt) K c (h := 6) (by omega) _) $$ [HO HH]
  · isplitr; · iexact HK
    isplitl [HO]; · iexact HO
    iexact HH
  iintro ⟨HO, HH, HA⟩
  rw [WP_bind]
  iapply (acc_stage X Wt c (h := 6) (by omega) _) $$ HA
  iintro HA
  ihave HA := (both_split (cvF X Wt) c 7) $$ HA
  icases HA with ⟨HA, HA'⟩
  rw [WP_bind]
  iapply (store_stage (cvF X Wt) K c (a := 0) (b := 0) (by omega) (by omega) (by omega) o₃ h₃ o₄ h₄ e₃ e₄ _) $$ [HA' HT]
  · isplitr; · iexact HK
    isplitl [HA']; · iexact HA'
    iexact HT
  iintro HT
  rw [WP_bind]
  iapply (sendW_stage (cvF X Wt) K c (h := 6) (by omega) (above_ow c _ _ _ _ (by omega) (by omega) (by omega) (by omega)) _) $$ [HO HH]
  · isplitr; · iexact HK
    isplitl [HO]; · iexact HO
    iexact HH
  iintro ⟨HO, HH, HC⟩
  rw [WP_bind]
  iapply (sig_stage (cvF X Wt) K c kL kR hkL hkR (h := 6) (by omega) 7 _) $$ [HO Hg]
  · isplitr; · iexact HK
    isplitl [HO]; · iexact HO
    iexact Hg
  iintro ⟨HO, Hg⟩
  iapply hrest
  isplitr [HR]
  · isplitr; · iexact HK
    isplitl [HO]; · iexact HO
    isplitl [Hx]; · iexact Hx
    isplitl [HH HC HB]
    · iapply (next_early (cvF X Wt) c (h := 6) (by omega))
      isplitl [HH]; · iexact HH
      isplitl [HC]; · iexact HC
      iexact HB
    isplitl [Hg]; · iexact Hg
    isplitl [Hw]; · iexact Hw
    isplitl [HT]; · iexact HT
    iexact HA
  iexact HR

/-- What arrives from hop 7 on stays as it is. -/
theorem both_late (c : Dev nD) {h : ℕ} (hh : 7 ≤ h) :
    both (fun δ => owns (c : Thread nD τ) (slot δ (sl (h + 1))) fullShare (cvF X Wt δ (pv δ c) h)) ⊢ both (fun δ => wh (cvF X Wt) δ c (h + 1)) := by
  simp only [cv_late X Wt _ c hh]; exact BIBase.Entails.rfl

/-- A hop that passes a finished chunk on, stores it, and gives the slot back: hops 7 to 10. -/
theorem hop_late (c nR nL kL kR : Dev nD) (hR : nR = nx true c) (hL : nL = nx false c) (hkL : kL = pv true c) (hkR : kR = pv false c)
    {a : ℕ} (ha : a < 4) (m : ℕ)
    (o₃ : Fin 2 → ℕ) (h₃ : ∀ a, o₃ a + S256x2048.size a ≤ S4096x2048.size a) (o₄ : Fin 2 → ℕ) (h₄ : ∀ a, o₄ a + S256x2048.size a ≤ S4096x2048.size a)
    (e₃ : o₃ = rowOff true (ck true c (a + 8))) (e₄ : o₄ = rowOff false (ck false c (a + 8)))
    (o₅ : Fin 2 → ℕ) (h₅ : ∀ a, o₅ a + S256x2048.size a ≤ S4096x2048.size a) (o₆ : Fin 2 → ℕ) (h₆ : ∀ a, o₆ a + S256x2048.size a ≤ S4096x2048.size a)
    (R : sProp 𝕄) (rest : P F PUnit) (Q : PUnit → sProp 𝕄)
    (hrest : iprop(St X Wt K c (a + 7 + 1) m (a + 1) (a + 1 + 1) (fun δ => lh (cvF X Wt) δ c (a + 7 + 1)) ∗ R) ⊢ WP c rest Q) :
    iprop(St X Wt K c (a + 7) m a (a + 1) (fun δ => lh (cvF X Wt) δ c (a + 7)) ∗ R) ⊢ WP c (do
      send2 (sl (a + 7)) (sl (a + 7 + 1)) nR nL
      recv2 (sl (a + 7)) (sl (a + 7 + 1))
      store2 (sl (a + 7 + 1)) o₃ h₃ o₄ h₄
      sendW2 (sl (a + 7)) (sl (a + 7 + 1))
      storeW2 (sl (a + 7)) o₅ h₅ o₆ h₆
      sig2 kL kR
      rest) Q := by
  have hs := fun Q' => store_stage (cvF X Wt) K c (a := a) (b := a + 1) (by omega) (by omega) (by omega) o₃ h₃ o₄ h₄
    (by rw [e₃, show a + 1 + 7 = a + 8 by omega]) (by rw [e₄, show a + 1 + 7 = a + 8 by omega]) Q'
  rw [show a + 1 + 7 = a + 7 + 1 by omega] at hs
  unfold St at *
  iintro ⟨⟨#HK, HO, Hx, HH, Hg, Hw, HT, HA⟩, HR⟩
  rw [WP_bind]
  iapply (send_stage' (cvF X Wt) K c nR nL hR hL (h := a + 7) (by omega) (a + 7) _) $$ [HO HA HH]
  · isplitr; · iexact HK
    isplitl [HO]; · iexact HO
    isplitl [HA]; · iexact HA
    iexact HH
  iintro ⟨HO, HH⟩
  rw [WP_bind]
  iapply (recv_stage (cvF X Wt) K c (h := a + 7) (by omega) _) $$ [HO HH]
  · isplitr; · iexact HK
    isplitl [HO]; · iexact HO
    iexact HH
  iintro ⟨HO, HH, HA⟩
  ihave HA := (both_late X Wt c (h := a + 7) (by omega)) $$ HA
  ihave HA := (both_split (cvF X Wt) c (a + 7 + 1)) $$ HA
  icases HA with ⟨HA, HA'⟩
  rw [WP_bind]
  iapply (hs _) $$ [HA' HT]
  · isplitr; · iexact HK
    isplitl [HA']; · iexact HA'
    iexact HT
  iintro HT
  rw [WP_bind]
  iapply (sendW_stage (cvF X Wt) K c (h := a + 7) (by omega) (above_ow c _ _ _ _ (by omega) (by omega) (by omega) (by omega)) _) $$ [HO HH]
  · isplitr; · iexact HK
    isplitl [HO]; · iexact HO
    iexact HH
  iintro ⟨HO, HH, HC⟩
  rw [WP_bind]
  iapply (storeW_stage (cvF X Wt) K c (a := a) (b := a + 1 + 1) (by omega) (by omega)
      (above_ow c (a + 7 + 1) (a + 7 + 1) (a + 7) (a + 7) (by omega) (by omega) (by omega) (by omega)) o₅ h₅ o₆ h₆ _) $$ [HO HT]
  · isplitr; · iexact HK
    isplitl [HO]; · iexact HO
    iexact HT
  iintro ⟨HO, HT, HB⟩
  rw [WP_bind]
  iapply (sig_stage (cvF X Wt) K c kL kR hkL hkR (h := a + 7) (by omega) (a + 7 + 1) _) $$ [HO Hg]
  · isplitr; · iexact HK
    isplitl [HO]; · iexact HO
    iexact Hg
  iintro ⟨HO, Hg⟩
  iapply hrest
  isplitr [HR]
  · isplitr; · iexact HK
    isplitl [HO]; · iexact HO
    isplitl [Hx]; · iexact Hx
    isplitl [HH HC HB]
    · iapply (next_early (cvF X Wt) c (h := a + 7) (by omega))
      isplitl [HH]; · iexact HH
      isplitl [HC]; · iexact HC
      iexact HB
    isplitl [Hg]; · iexact Hg
    isplitl [Hw]; · iexact Hw
    isplitl [HT]; · iexact HT
    iexact HA
  iexact HR

/-- The last three hops: nothing is given back, and the copies to the result are waited for afterwards. -/
theorem hop_tail (c nR nL : Dev nD) (hR : nR = nx true c) (hL : nL = nx false c) {b : ℕ} (hb : 5 ≤ b) (hb' : b < 8) (m : ℕ)
    (o₃ : Fin 2 → ℕ) (h₃ : ∀ a, o₃ a + S256x2048.size a ≤ S4096x2048.size a) (o₄ : Fin 2 → ℕ) (h₄ : ∀ a, o₄ a + S256x2048.size a ≤ S4096x2048.size a)
    (e₃ : o₃ = rowOff true (ck true c (b + 7))) (e₄ : o₄ = rowOff false (ck false c (b + 7)))
    (R : sProp 𝕄) (rest : P F PUnit) (Q : PUnit → sProp 𝕄)
    (hrest : iprop(St X Wt K c (b + 6 + 1) m 4 (b + 1) (fun δ => lh (cvF X Wt) δ c (b + 6 + 1)) ∗ both (fun δ => lh (cvF X Wt) δ c (b + 6)) ∗ R) ⊢ WP c rest Q) :
    iprop(St X Wt K c (b + 6) m 4 b (fun δ => lh (cvF X Wt) δ c (b + 6)) ∗ R) ⊢ WP c (do
      send2 (sl (b + 6)) (sl (b + 6 + 1)) nR nL
      recv2 (sl (b + 6)) (sl (b + 6 + 1))
      store2 (sl (b + 6 + 1)) o₃ h₃ o₄ h₄
      sendW2 (sl (b + 6)) (sl (b + 6 + 1))
      rest) Q := by
  have hs := fun Q' => store_stage (cvF X Wt) K c (a := 4) (b := b) (by omega) (by omega) (by omega) o₃ h₃ o₄ h₄ e₃ e₄ Q'
  rw [show b + 7 = b + 6 + 1 by omega] at hs
  rw [St, ow_late c (b + 6 + 1) (b + 6 + 1) (e := b + 6 + 1) (e' := b + 6) (by omega) (by omega)] at hrest
  unfold St
  iintro ⟨⟨#HK, HO, Hx, HH, Hg, Hw, HT, HA⟩, HR⟩
  rw [WP_bind]
  iapply (send_stage' (cvF X Wt) K c nR nL hR hL (h := b + 6) (by omega) (b + 6) _) $$ [HO HA HH]
  · isplitr; · iexact HK
    isplitl [HO]; · iexact HO
    isplitl [HA]; · iexact HA
    iexact HH
  iintro ⟨HO, HH⟩
  rw [WP_bind]
  iapply (recv_stage (cvF X Wt) K c (h := b + 6) (by omega) _) $$ [HO HH]
  · isplitr; · iexact HK
    isplitl [HO]; · iexact HO
    iexact HH
  iintro ⟨HO, HH, HA⟩
  ihave HA := (both_late X Wt c (h := b + 6) (by omega)) $$ HA
  ihave HA := (both_split (cvF X Wt) c (b + 6 + 1)) $$ HA
  icases HA with ⟨HA, HA'⟩
  rw [WP_bind]
  iapply (hs _) $$ [HA' HT]
  · isplitr; · iexact HK
    isplitl [HA']; · iexact HA'
    iexact HT
  iintro HT
  rw [WP_bind]
  iapply (sendW_stage (cvF X Wt) K c (h := b + 6) (by omega) (above_ow c _ _ _ _ (by omega) (by omega) (by omega) (by omega)) _) $$ [HO HH]
  · isplitr; · iexact HK
    isplitl [HO]; · iexact HO
    iexact HH
  iintro ⟨HO, HH, HC⟩
  iapply hrest
  isplitr [HC HR]
  · isplitr; · iexact HK
    isplitl [HO]; · iexact HO
    isplitl [Hx]; · iexact Hx
    isplitl [HH]; · iapply (next_late c (h := b + 6) (by omega)); iexact HH
    isplitl [Hg]
    · unfold both Cg
      rw [Finset.Ico_eq_empty (by omega : ¬ b + 6 + 1 < 11), Finset.Ico_eq_empty (by omega : ¬ b + 6 < 11)]; iexact Hg
    isplitl [Hw]; · iexact Hw
    isplitl [HT]; · iexact HT
    iexact HA
  isplitl [HC]; · iexact HC
  iexact HR

/-- A last wait for copies to the result. -/
theorem hop_store (c : Dev nD) {a : ℕ} (ha : a < 8)
    (o₅ : Fin 2 → ℕ) (h₅ : ∀ a, o₅ a + S256x2048.size a ≤ S4096x2048.size a) (o₆ : Fin 2 → ℕ) (h₆ : ∀ a, o₆ a + S256x2048.size a ≤ S4096x2048.size a)
    (R : sProp 𝕄) (A : Bool → sProp 𝕄) (rest : P F PUnit) (Q : PUnit → sProp 𝕄)
    (hrest : iprop(St X Wt K c 14 11 (a + 1) 8 A ∗ both (fun δ => rh (cvF X Wt) δ c (a + 7)) ∗ R) ⊢ WP c rest Q) :
    iprop(St X Wt K c 14 11 a 8 A ∗ R) ⊢ WP c (do
      storeW2 (sl (a + 7)) o₅ h₅ o₆ h₆
      rest) Q := by
  unfold St at *
  iintro ⟨⟨#HK, HO, Hx, HH, Hg, Hw, HT, HA⟩, HR⟩
  rw [WP_bind]
  iapply (storeW_stage (cvF X Wt) K c (a := a) (b := 8) (by omega) (by omega)
      (above_ow c 14 14 14 14 (by omega) (by omega) (by omega) (by omega)) o₅ h₅ o₆ h₆ _) $$ [HO HT]
  · isplitr; · iexact HK
    isplitl [HO]; · iexact HO
    iexact HT
  iintro ⟨HO, HT, HB⟩
  iapply hrest
  isplitr [HB HR]
  · isplitr; · iexact HK
    isplitl [HO]; · iexact HO
    isplitl [Hx]; · iexact Hx
    isplitl [HH]; · iexact HH
    isplitl [Hg]; · iexact Hg
    isplitl [Hw]; · iexact Hw
    isplitl [HT]; · iexact HT
    iexact HA
  isplitl [HB]; · iexact HB
  iexact HR

end Cert.KernelIdeal.RingProof

end
-- ==== Proof.Chain.lean ====
module

public import proofs.«01_k».proof.Proof.Body

@[expose] public section

/-!
# The whole body

The body as the chain of its hops: what a device must be given before it, and what it holds after it.
-/

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (X : Dev nD → (cc0_stg0_0 : Ref sig .tc).ty.Contents (Elt F)) (Wt : Dev nD → (cc0_stg1_0 : Ref sig .tc).ty.Contents (Elt F))
variable (K : Dev nD × CK → ℕ)

/-- The rows of `x` for the first clockwise product. -/
theorem off1_row (c : Dev nD) : k0_off1 c = rowOff true (ck true c 0) := by rw [k0_off1_eq]; revert c; decide
/-- The rows of `x` for the first counter-clockwise product. -/
theorem off2_row (c : Dev nD) : k0_off2 c = rowOff false (ck false c 0) := by rw [k0_off2_eq]; revert c; decide
/-- The rows of `x` for a hop's clockwise product. -/
theorem off3_row (c : Dev nD) (r : Fin 7) : k0_off3 c (BitVec.ofNat 32 r.val) = rowOff true (ck true c (r.val + 1)) := by
  rw [k0_off3_eq]; revert c r; decide
/-- The rows of `x` for a hop's counter-clockwise product. -/
theorem off4_row (c : Dev nD) (r : Fin 7) : k0_off4 c (BitVec.ofNat 32 r.val) = rowOff false (ck false c (r.val + 1)) := by
  rw [k0_off4_eq]; revert c r; decide
/-- The rows of the result for a hop's clockwise chunk. -/
theorem off5_row (c : Dev nD) (r : Fin 8) : k0_off5 c (BitVec.ofNat 32 (6 + r.val)) = rowOff true (ck true c (r.val + 7)) := by
  rw [k0_off5_eq]; revert c r; decide
/-- The rows of the result for a hop's counter-clockwise chunk. -/
theorem off6_row (c : Dev nD) (r : Fin 8) : k0_off6 c (BitVec.ofNat 32 (6 + r.val)) = rowOff false (ck false c (r.val + 7)) := by
  rw [k0_off6_eq]; revert c r; decide

/-- Asking which device this is. -/
theorem WP_deviceId (c : Dev nD) (Q : Dev nD → sProp 𝕄) : WP (F := F) c (Prog.lift .deviceId) Q = iprop(|={Set.univ}=> Q c) := by
  show wp frame (wpE (defs₀ (F := F)) 𝒱₀ (c : Thread nD τ) none) Set.univ (Prog.op TpuEff.deviceId fun d => Prog.ret d) Q = _
  rw [wp_deviceId]; rfl

/-- What a device is given before the body. -/
def bodyIn (c : Dev nD) : sProp 𝕄 :=
  iprop(known (cvF X Wt) K ∗ due c (O₀ c) ∗ xw X Wt c ∗ barIn c ∗ both (fun δ => free c δ (sl 0)) ∗ both (fun δ => free c δ (sl 3))
    ∗ both (fun δ => iprop(toks δ c 0 ∗ conv (posS δ c) 0 ∗ conv (posR δ c) 0)) ∗ both (fun δ => Cg δ c 0) ∗ both (fun δ => Cw δ c 0)
    ∗ both (fun δ => T (cvF X Wt) δ c 0 0))

/-- The right halves of the four slots, back from the copies to the result. -/
def rights (c : Dev nD) (R : sProp 𝕄) : sProp 𝕄 :=
  iprop(both (fun δ => rh (cvF X Wt) δ c 14) ∗ both (fun δ => rh (cvF X Wt) δ c 13) ∗ both (fun δ => rh (cvF X Wt) δ c 12) ∗ both (fun δ => rh (cvF X Wt) δ c 11) ∗ R)
/-- The left halves of the slots sent from in the last three hops. -/
def lefts (c : Dev nD) (R : sProp 𝕄) : sProp 𝕄 :=
  iprop(both (fun δ => lh (cvF X Wt) δ c 13) ∗ both (fun δ => lh (cvF X Wt) δ c 12) ∗ both (fun δ => lh (cvF X Wt) δ c 11) ∗ R)

/-- What it holds after it. -/
def bodyOut (c : Dev nD) : sProp 𝕄 :=
  iprop(St X Wt K c 14 11 8 8 (fun δ => lh (cvF X Wt) δ c 14) ∗ rights X Wt c (lefts X Wt c (atPos ER (cell c .bar) 1 ∅ 0)))

/-- Before the first hop. -/
theorem start_hops (c : Dev nD) :
    iprop(known (cvF X Wt) K ∗ due c (ow c 0 0 0 0) ∗ (xw X Wt c ∗ both (fun δ => wh (cvF X Wt) δ c 0)) ∗ both (fun δ => iprop(dst δ c 0 ∗ dst δ c 1))
        ∗ both (fun δ => free c δ (sl 3)) ∗ both (fun δ => iprop(toks δ c 0 ∗ conv (posS δ c) 0 ∗ conv (posR δ c) 0)) ∗ both (fun δ => Cg δ c 0)
        ∗ both (fun δ => Cw δ c 0) ∗ both (fun δ => T (cvF X Wt) δ c 0 0))
      ⊢ St X Wt K c 0 0 0 0 (fun δ => wh (cvF X Wt) δ c 0) := by
  unfold St both H fr
  beta_reduce
  rw [if_pos (by decide), if_pos (by decide)]
  iintro ⟨HK, HO, ⟨Hx, HA⟩, ⟨⟨D0, D1⟩, ⟨D0', D1'⟩⟩, ⟨Hf, Hf'⟩, ⟨⟨Ht, HS, HR⟩, ⟨Ht', HS', HR'⟩⟩, Hg, Hw, HT⟩
  isplitl [HK]; · iexact HK
  isplitl [HO]; · iexact HO
  isplitl [Hx]; · iexact Hx
  isplitr [Hg Hw HT HA]
  · isplitl [Ht HS HR Hf D0 D1]
    · isplitl [Ht]; · iexact Ht
      isplitl [HS]; · iexact HS
      isplitl [HR]; · iexact HR
      isplitl [Hf]; · iexact Hf
      isplitl [D0]; · iexact D0
      iexact D1
    isplitl [Ht']; · iexact Ht'
    isplitl [HS']; · iexact HS'
    isplitl [HR']; · iexact HR'
    isplitl [Hf']; · iexact Hf'
    isplitl [D0']; · iexact D0'
    iexact D1'
  isplitl [Hg]; · iexact Hg
  isplitl [Hw]; · iexact Hw
  isplitl [HT]; · iexact HT
  iexact HA

set_option maxRecDepth 4000 in
set_option maxHeartbeats 4000000 in
/-- The fourteen hops and the last waits. -/
theorem hops (c : Dev nD) (Q : PUnit → sProp 𝕄) :
    iprop(St X Wt K c 0 0 0 0 (fun δ => wh (cvF X Wt) δ c 0) ∗ atPos ER (cell c .bar) 1 ∅ 0 ∗ (bodyOut X Wt K c -∗ Q ⟨⟩)) ⊢ WP c (do
      send2 (sl 0) (sl 1) ⟨k0_dev3 c, k0_dev3_lt c⟩ ⟨k0_dev4 c, k0_dev4_lt c⟩
      let p ← part2 xM wM (k0_off3 c 0#32) (k0_off3_inb c 0) (k0_off4 c 0#32) (k0_off4_inb c 0)
      recv2 (sl 0) (sl 1)
      acc2 0 (sl 1) p
      sendW2 (sl 0) (sl 1)
      sig2 ⟨k0_dev5 c, k0_dev5_lt c⟩ ⟨k0_dev6 c, k0_dev6_lt c⟩
      send2 (sl 1) (sl 2) ⟨k0_dev7 c, k0_dev7_lt c⟩ ⟨k0_dev8 c, k0_dev8_lt c⟩
      let p ← part2 xM wM (k0_off3 c 1#32) (k0_off3_inb c 1) (k0_off4 c 1#32) (k0_off4_inb c 1)
      recv2 (sl 1) (sl 2)
      acc2 1 (sl 2) p
      sendW2 (sl 1) (sl 2)
      sig2 ⟨k0_dev9 c, k0_dev9_lt c⟩ ⟨k0_dev10 c, k0_dev10_lt c⟩
      send2 (sl 2) (sl 3) ⟨k0_dev11 c, k0_dev11_lt c⟩ ⟨k0_dev12 c, k0_dev12_lt c⟩
      let p ← part2 xM wM (k0_off3 c 2#32) (k0_off3_inb c 2) (k0_off4 c 2#32) (k0_off4_inb c 2)
      recv2 (sl 2) (sl 3)
      acc2 2 (sl 3) p
      sendW2 (sl 2) (sl 3)
      sig2 ⟨k0_dev13 c, k0_dev13_lt c⟩ ⟨k0_dev14 c, k0_dev14_lt c⟩
      cred2
      send2 (sl 3) (sl 4) ⟨k0_dev15 c, k0_dev15_lt c⟩ ⟨k0_dev16 c, k0_dev16_lt c⟩
      let p ← part2 xM wM (k0_off3 c 3#32) (k0_off3_inb c 3) (k0_off4 c 3#32) (k0_off4_inb c 3)
      recv2 (sl 3) (sl 4)
      acc2 3 (sl 4) p
      sendW2 (sl 3) (sl 4)
      sig2 ⟨k0_dev17 c, k0_dev17_lt c⟩ ⟨k0_dev18 c, k0_dev18_lt c⟩
      cred2
      send2 (sl 4) (sl 5) ⟨k0_dev19 c, k0_dev19_lt c⟩ ⟨k0_dev20 c, k0_dev20_lt c⟩
      let p ← part2 xM wM (k0_off3 c 4#32) (k0_off3_inb c 4) (k0_off4 c 4#32) (k0_off4_inb c 4)
      recv2 (sl 4) (sl 5)
      acc2 4 (sl 5) p
      sendW2 (sl 4) (sl 5)
      sig2 ⟨k0_dev21 c, k0_dev21_lt c⟩ ⟨k0_dev22 c, k0_dev22_lt c⟩
      cred2
      send2 (sl 5) (sl 6) ⟨k0_dev23 c, k0_dev23_lt c⟩ ⟨k0_dev24 c, k0_dev24_lt c⟩
      let p ← part2 xM wM (k0_off3 c 5#32) (k0_off3_inb c 5) (k0_off4 c 5#32) (k0_off4_inb c 5)
      recv2 (sl 5) (sl 6)
      acc2 5 (sl 6) p
      sendW2 (sl 5) (sl 6)
      sig2 ⟨k0_dev25 c, k0_dev25_lt c⟩ ⟨k0_dev26 c, k0_dev26_lt c⟩
      cred2
      send2 (sl 6) (sl 7) ⟨k0_dev27 c, k0_dev27_lt c⟩ ⟨k0_dev28 c, k0_dev28_lt c⟩
      let p ← part2 xM wM (k0_off3 c 6#32) (k0_off3_inb c 6) (k0_off4 c 6#32) (k0_off4_inb c 6)
      recv2 (sl 6) (sl 7)
      acc2 6 (sl 7) p
      store2 (sl 7) (k0_off5 c 6#32) (k0_off5_inb c 0) (k0_off6 c 6#32) (k0_off6_inb c 0)
      sendW2 (sl 6) (sl 7)
      sig2 ⟨k0_dev29 c, k0_dev29_lt c⟩ ⟨k0_dev30 c, k0_dev30_lt c⟩
      cred2
      send2 (sl 7) (sl 8) ⟨k0_dev31 c, k0_dev31_lt c⟩ ⟨k0_dev32 c, k0_dev32_lt c⟩
      recv2 (sl 7) (sl 8)
      store2 (sl 8) (k0_off5 c 7#32) (k0_off5_inb c 1) (k0_off6 c 7#32) (k0_off6_inb c 1)
      sendW2 (sl 7) (sl 8)
      storeW2 (sl 7) (k0_off5 c 6#32) (k0_off5_inb c 0) (k0_off6 c 6#32) (k0_off6_inb c 0)
      sig2 ⟨k0_dev33 c, k0_dev33_lt c⟩ ⟨k0_dev34 c, k0_dev34_lt c⟩
      cred2
      send2 (sl 8) (sl 9) ⟨k0_dev35 c, k0_dev35_lt c⟩ ⟨k0_dev36 c, k0_dev36_lt c⟩
      recv2 (sl 8) (sl 9)
      store2 (sl 9) (k0_off5 c 8#32) (k0_off5_inb c 2) (k0_off6 c 8#32) (k0_off6_inb c 2)
      sendW2 (sl 8) (sl 9)
      storeW2 (sl 8) (k0_off5 c 7#32) (k0_off5_inb c 1) (k0_off6 c 7#32) (k0_off6_inb c 1)
      sig2 ⟨k0_dev37 c, k0_dev37_lt c⟩ ⟨k0_dev38 c, k0_dev38_lt c⟩
      cred2
      send2 (sl 9) (sl 10) ⟨k0_dev39 c, k0_dev39_lt c⟩ ⟨k0_dev40 c, k0_dev40_lt c⟩
      recv2 (sl 9) (sl 10)
      store2 (sl 10) (k0_off5 c 9#32) (k0_off5_inb c 3) (k0_off6 c 9#32) (k0_off6_inb c 3)
      sendW2 (sl 9) (sl 10)
      storeW2 (sl 9) (k0_off5 c 8#32) (k0_off5_inb c 2) (k0_off6 c 8#32) (k0_off6_inb c 2)
      sig2 ⟨k0_dev41 c, k0_dev41_lt c⟩ ⟨k0_dev42 c, k0_dev42_lt c⟩
      cred2
      send2 (sl 10) (sl 11) ⟨k0_dev43 c, k0_dev43_lt c⟩ ⟨k0_dev44 c, k0_dev44_lt c⟩
      recv2 (sl 10) (sl 11)
      store2 (sl 11) (k0_off5 c 10#32) (k0_off5_inb c 4) (k0_off6 c 10#32) (k0_off6_inb c 4)
      sendW2 (sl 10) (sl 11)
      storeW2 (sl 10) (k0_off5 c 9#32) (k0_off5_inb c 3) (k0_off6 c 9#32) (k0_off6_inb c 3)
      sig2 ⟨k0_dev45 c, k0_dev45_lt c⟩ ⟨k0_dev46 c, k0_dev46_lt c⟩
      cred2
      send2 (sl 11) (sl 12) ⟨k0_dev47 c, k0_dev47_lt c⟩ ⟨k0_dev48 c, k0_dev48_lt c⟩
      recv2 (sl 11) (sl 12)
      store2 (sl 12) (k0_off5 c 11#32) (k0_off5_inb c 5) (k0_off6 c 11#32) (k0_off6_inb c 5)
      sendW2 (sl 11) (sl 12)
      cred2
      send2 (sl 12) (sl 13) ⟨k0_dev49 c, k0_dev49_lt c⟩ ⟨k0_dev50 c, k0_dev50_lt c⟩
      recv2 (sl 12) (sl 13)
      store2 (sl 13) (k0_off5 c 12#32) (k0_off5_inb c 6) (k0_off6 c 12#32) (k0_off6_inb c 6)
      sendW2 (sl 12) (sl 13)
      cred2
      send2 (sl 13) (sl 14) ⟨k0_dev51 c, k0_dev51_lt c⟩ ⟨k0_dev52 c, k0_dev52_lt c⟩
      recv2 (sl 13) (sl 14)
      store2 (sl 14) (k0_off5 c 13#32) (k0_off5_inb c 7) (k0_off6 c 13#32) (k0_off6_inb c 7)
      sendW2 (sl 13) (sl 14)
      storeW2 (sl 11) (k0_off5 c 10#32) (k0_off5_inb c 4) (k0_off6 c 10#32) (k0_off6_inb c 4)
      storeW2 (sl 12) (k0_off5 c 11#32) (k0_off5_inb c 5) (k0_off6 c 11#32) (k0_off6_inb c 5)
      storeW2 (sl 13) (k0_off5 c 12#32) (k0_off5_inb c 6) (k0_off6 c 12#32) (k0_off6_inb c 6)
      storeW2 (sl 14) (k0_off5 c 13#32) (k0_off5_inb c 7) (k0_off6 c 13#32) (k0_off6_inb c 7)
      pure ⟨⟩) Q := by
  refine hop_add X Wt K c _ _ _ _ (Fin.ext (k0_dev3_eq c)) (Fin.ext (k0_dev4_eq c)) (Fin.ext (k0_dev5_eq c)) (Fin.ext (k0_dev6_eq c)) (h := 0) (by decide) 0 _ _ _ _ (off3_row c 0) (off4_row c 0) _ _ _ ?_
  refine hop_add X Wt K c _ _ _ _ (Fin.ext (k0_dev7_eq c)) (Fin.ext (k0_dev8_eq c)) (Fin.ext (k0_dev9_eq c)) (Fin.ext (k0_dev10_eq c)) (h := 1) (by decide) 0 _ _ _ _ (off3_row c 1) (off4_row c 1) _ _ _ ?_
  refine hop_add X Wt K c _ _ _ _ (Fin.ext (k0_dev11_eq c)) (Fin.ext (k0_dev12_eq c)) (Fin.ext (k0_dev13_eq c)) (Fin.ext (k0_dev14_eq c)) (h := 2) (by decide) 0 _ _ _ _ (off3_row c 2) (off4_row c 2) _ _ _ ?_
  refine hop_cred X Wt K c (m := 0) (by decide) _ _ _ _ _ _ ?_
  refine hop_add X Wt K c _ _ _ _ (Fin.ext (k0_dev15_eq c)) (Fin.ext (k0_dev16_eq c)) (Fin.ext (k0_dev17_eq c)) (Fin.ext (k0_dev18_eq c)) (h := 3) (by decide) 1 _ _ _ _ (off3_row c 3) (off4_row c 3) _ _ _ ?_
  refine hop_cred X Wt K c (m := 1) (by decide) _ _ _ _ _ _ ?_
  refine hop_add X Wt K c _ _ _ _ (Fin.ext (k0_dev19_eq c)) (Fin.ext (k0_dev20_eq c)) (Fin.ext (k0_dev21_eq c)) (Fin.ext (k0_dev22_eq c)) (h := 4) (by decide) 2 _ _ _ _ (off3_row c 4) (off4_row c 4) _ _ _ ?_
  refine hop_cred X Wt K c (m := 2) (by decide) _ _ _ _ _ _ ?_
  refine hop_add X Wt K c _ _ _ _ (Fin.ext (k0_dev23_eq c)) (Fin.ext (k0_dev24_eq c)) (Fin.ext (k0_dev25_eq c)) (Fin.ext (k0_dev26_eq c)) (h := 5) (by decide) 3 _ _ _ _ (off3_row c 5) (off4_row c 5) _ _ _ ?_
  refine hop_cred X Wt K c (m := 3) (by decide) _ _ _ _ _ _ ?_
  refine hop_mid X Wt K c _ _ _ _ (Fin.ext (k0_dev27_eq c)) (Fin.ext (k0_dev28_eq c)) (Fin.ext (k0_dev29_eq c)) (Fin.ext (k0_dev30_eq c)) 4 _ _ _ _ (off3_row c 6) (off4_row c 6) _ _ _ _ (off5_row c 0) (off6_row c 0) _ _ _ ?_
  refine hop_cred X Wt K c (m := 4) (by decide) _ _ _ _ _ _ ?_
  refine hop_late X Wt K c _ _ _ _ (Fin.ext (k0_dev31_eq c)) (Fin.ext (k0_dev32_eq c)) (Fin.ext (k0_dev33_eq c)) (Fin.ext (k0_dev34_eq c)) (a := 0) (by decide) 5 _ _ _ _ (off5_row c 1) (off6_row c 1) _ _ _ _ _ _ _ ?_
  refine hop_cred X Wt K c (m := 5) (by decide) _ _ _ _ _ _ ?_
  refine hop_late X Wt K c _ _ _ _ (Fin.ext (k0_dev35_eq c)) (Fin.ext (k0_dev36_eq c)) (Fin.ext (k0_dev37_eq c)) (Fin.ext (k0_dev38_eq c)) (a := 1) (by decide) 6 _ _ _ _ (off5_row c 2) (off6_row c 2) _ _ _ _ _ _ _ ?_
  refine hop_cred X Wt K c (m := 6) (by decide) _ _ _ _ _ _ ?_
  refine hop_late X Wt K c _ _ _ _ (Fin.ext (k0_dev39_eq c)) (Fin.ext (k0_dev40_eq c)) (Fin.ext (k0_dev41_eq c)) (Fin.ext (k0_dev42_eq c)) (a := 2) (by decide) 7 _ _ _ _ (off5_row c 3) (off6_row c 3) _ _ _ _ _ _ _ ?_
  refine hop_cred X Wt K c (m := 7) (by decide) _ _ _ _ _ _ ?_
  refine hop_late X Wt K c _ _ _ _ (Fin.ext (k0_dev43_eq c)) (Fin.ext (k0_dev44_eq c)) (Fin.ext (k0_dev45_eq c)) (Fin.ext (k0_dev46_eq c)) (a := 3) (by decide) 8 _ _ _ _ (off5_row c 4) (off6_row c 4) _ _ _ _ _ _ _ ?_
  refine hop_cred X Wt K c (m := 8) (by decide) _ _ _ _ _ _ ?_
  refine hop_tail X Wt K c _ _ (Fin.ext (k0_dev47_eq c)) (Fin.ext (k0_dev48_eq c)) (b := 5) (by decide) (by decide) 9 _ _ _ _ (off5_row c 5) (off6_row c 5) _ _ _ ?_
  refine hop_cred X Wt K c (m := 9) (by decide) _ _ _ _ _ _ ?_
  refine hop_tail X Wt K c _ _ (Fin.ext (k0_dev49_eq c)) (Fin.ext (k0_dev50_eq c)) (b := 6) (by decide) (by decide) 10 _ _ _ _ (off5_row c 6) (off6_row c 6) _ _ _ ?_
  refine hop_cred X Wt K c (m := 10) (by decide) _ _ _ _ _ _ ?_
  refine hop_tail X Wt K c _ _ (Fin.ext (k0_dev51_eq c)) (Fin.ext (k0_dev52_eq c)) (b := 7) (by decide) (by decide) 11 _ _ _ _ (off5_row c 7) (off6_row c 7) _ _ _ ?_
  refine hop_store X Wt K c (a := 4) (by decide) _ _ _ _ _ _ _ _ ?_
  refine hop_store X Wt K c (a := 5) (by decide) _ _ _ _ _ _ _ _ ?_
  refine hop_store X Wt K c (a := 6) (by decide) _ _ _ _ _ _ _ _ ?_
  refine hop_store X Wt K c (a := 7) (by decide) _ _ _ _ _ _ _ _ ?_
  rw [WP_pure]
  iintro ⟨HS, R14, R13, R12, R11, L13, L12, L11, Hat, Hk⟩
  imodintro
  iapply Hk
  unfold bodyOut rights lefts
  isplitl [HS]; · iexact HS
  isplitl [R14]; · iexact R14
  isplitl [R13]; · iexact R13
  isplitl [R12]; · iexact R12
  isplitl [R11]; · iexact R11
  isplitl [L13]; · iexact L13
  isplitl [L12]; · iexact L12
  isplitl [L11]; · iexact L11
  iexact Hat

set_option maxRecDepth 4000 in
/-- The whole body. -/
theorem body_spec (c : Dev nD) (Q : PUnit → sProp 𝕄) : iprop(bodyIn X Wt K c ∗ (bodyOut X Wt K c -∗ Q ⟨⟩)) ⊢ WP c (ringBody xM wM) Q := by
  unfold bodyIn
  iintro ⟨⟨#HK, HO, Hx, Hb, Hf0, Hf3, Ht, Hg, Hw, HT⟩, Hk⟩
  unfold ringBody
  rw [WP_bind, WP_deviceId]
  imodintro
  rw [WP_bind]
  iapply (bar_stage K (cvF X Wt) c _ _ (Fin.ext (k0_dev1_eq c)) (Fin.ext (k0_dev2_eq c)) _) $$ [HO Hb]
  · isplitr; · iexact HK
    isplitl [HO]; · iexact HO
    iexact Hb
  iintro ⟨HO, Hd, Hat⟩
  rw [WP_bind]
  iapply (first_stage X Wt c _ _ _ _ (off1_row c) (off2_row c) _) $$ [Hx Hf0]
  · isplitl [Hx]; · iexact Hx
    iexact Hf0
  iintro Hxa
  ihave HS := (start_hops X Wt K c) $$ [HO Hxa Hd Hf3 Ht Hg Hw HT]
  · isplitr; · iexact HK
    isplitl [HO]; · iexact HO
    isplitl [Hxa]; · iexact Hxa
    isplitl [Hd]; · iexact Hd
    isplitl [Hf3]; · iexact Hf3
    isplitl [Ht]; · iexact Ht
    isplitl [Hg]; · iexact Hg
    isplitl [Hw]; · iexact Hw
    iexact HT
  iapply (hops X Wt K c Q)
  isplitl [HS]; · iexact HS
  isplitl [Hat]; · iexact Hat
  iexact Hk

end Cert.KernelIdeal.RingProof

end
-- ==== Proof.Memory.lean ====
module

public import proofs.«01_k».proof.Proof.Body
public import Idealize.ShloMosaic.Lib.Ring
public import Idealize.ShloMosaic.Lib.Ring.WriteBehind

@[expose] public section

/-!
# The buffers in pieces

The two four-slot buffers are held slot by slot, the result by half chunks of rows. This file cuts the whole buffers
into these pieces and puts them together again; the result then holds the value `outV`, which is the same on every
device.
-/

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Families -/

omit [FloatOps F] in
/-- A family over the numbers below `n`, told over a range. -/
theorem fin_range (n : ℕ) (Φ : ℕ → sProp 𝕄) : bigSep Finset.univ (fun i : Fin n => Φ i.val) = bigSep (Finset.Ico 0 n) Φ := by
  have h : Finset.Ico 0 n = (Finset.univ : Finset (Fin n)).map Fin.valEmbedding := by
    ext x; rw [Fin.map_valEmbedding_univ, Finset.mem_Ico, Finset.mem_Iio]; omega
  rw [h, bigSep_map]; rfl

omit [FloatOps F] in
/-- A family over the two directions. -/
theorem bool_both (Φ : Bool → sProp 𝕄) : bigSep Finset.univ Φ = both Φ :=
  bigSep_univ_eq_bigSepL [true, false] (by decide) (by decide) Φ

omit [FloatOps F] in
/-- A family over directions and numbers. -/
theorem both_range (n : ℕ) (Φ : Bool → ℕ → sProp 𝕄) :
    bigSep Finset.univ (fun t : Bool × Fin n => Φ t.1 t.2.val) = both fun δ => bigSep (Finset.Ico 0 n) (Φ δ) := by
  rw [bigSep_univ_prod, bool_both]
  unfold both
  simp only [fin_range]

omit [FloatOps F] in
/-- A family over the four slots. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The slots -/

/-- The elements of a slot are the elements of its rectangle. -/
theorem slot_rect (δ : Bool) (j : Fin 4) : (slot δ j).view.set = (slotR j).set.map (comm δ).view.emb := by
  rw [slot_set]; exact View.set_slice _ _

/-- Different slots have no element in common. -/
theorem slotR_disjoint (j j' : Fin 4) (h : j ≠ j') : Disjoint (slotR j).set (slotR j').set :=
  Ring.lead_disjoint (s := S4x256x2048) (0 : Fin 3) 1 (fun b : Fin 4 => ![b.val, 0, 0]) S1x256x2048.size slot_inb
    (by decide) (by decide) j j' h

/-- The four slots are the whole buffer. -/
theorem slot_cover (δ : Bool) : Finset.univ.biUnion (fun j : Fin 4 => (slotR j).set.map (comm δ).view.emb) = (comm δ).view.set := by
  have h := Ring.lead_cover (s := S4x256x2048) (0 : Fin 3) 1 (fun b : Fin 4 => ![b.val, 0, 0]) S1x256x2048.size slot_inb
    (by decide) (by decide) (by decide) (by decide) (by decide)
  ext x
  constructor
  · intro hx
    obtain ⟨j, -, hj⟩ := Finset.mem_biUnion.mp hx
    obtain ⟨y, -, rfl⟩ := Finset.mem_map.mp hj
    exact Finset.mem_map_of_mem _ (Finset.mem_univ y)
  · intro hx
    obtain ⟨y, -, rfl⟩ := Finset.mem_map.mp hx
    obtain ⟨j, -, hj⟩ := Finset.mem_biUnion.mp (h.symm ▸ Finset.mem_univ y)
    exact Finset.mem_biUnion.mpr ⟨j, Finset.mem_univ _, Finset.mem_map_of_mem _ hj⟩

/-- A four-slot buffer at some contents. -/
def buffer (δ : Bool) (c : Dev nD) : sProp 𝕄 :=
  iprop(∃ f, (comm δ).view.loc (c : Thread nD τ) ↦[(comm δ).view.set]{fullShare} f)

/-- The elements of a slot, as elements of the buffer. -/
def slotE (δ : Bool) (c : Dev nD) (j : Fin 4) : Finset (Idx ((comm δ).view.loc (c : Thread nD τ))) := (slotR j).set.map (comm δ).view.emb

omit [FloatOps F] in
/-- A slot, as elements of the buffer. -/
theorem free_eq (δ : Bool) (c : Dev nD) (j : Fin 4) :
    free (F := F) c δ j = iprop(∃ f, (comm δ).view.loc (c : Thread nD τ) ↦[slotE δ c j]{fullShare} f) := by
  unfold free slotE
  rw [slot_rect]

omit [FloatOps F] in
/-- A buffer is its four slots. -/
theorem slots_split (δ : Bool) (c : Dev nD) : buffer (F := F) δ c ⊢ iprop(free c δ 0 ∗ free c δ 1 ∗ free c δ 2 ∗ free c δ 3) := by
  rw [← four (fun j => free (F := F) c δ j), bigSep_congr (s := Finset.univ) fun j _ => free_eq (F := F) δ c j]
  unfold buffer
  iintro ⟨%f, H⟩
  iapply (Ring.slab_split (slotE δ c) (fun j j' h => (Finset.disjoint_map _).mpr (slotR_disjoint j j' h)) (comm δ).view.set (slot_cover δ)
    (fun j f => iprop((comm δ).view.loc (c : Thread nD τ) ↦[slotE δ c j]{fullShare} f)) (fun _ _ => rfl)
    (fun f => iprop((comm δ).view.loc (c : Thread nD τ) ↦[(comm δ).view.set]{fullShare} f)) (fun _ => rfl) f)
  iexact H

/-- The four slots are the buffer. -/
theorem slots_join (δ : Bool) (c : Dev nD) : iprop(free c δ 0 ∗ free c δ 1 ∗ free c δ 2 ∗ free c δ 3) ⊢ buffer (F := F) δ c := by
  rw [← four (fun j => free (F := F) c δ j), bigSep_congr (s := Finset.univ) fun j _ => free_eq (F := F) δ c j]
  exact Ring.slab_join (slotE δ c) (fun j j' h => (Finset.disjoint_map _).mpr (slotR_disjoint j j' h)) (comm δ).view.set (slot_cover δ)
    (fun j f => iprop((comm δ).view.loc (c : Thread nD τ) ↦[slotE δ c j]{fullShare} f)) (fun _ _ => rfl)
    (fun f => iprop((comm δ).view.loc (c : Thread nD τ) ↦[(comm δ).view.set]{fullShare} f)) (fun _ => rfl)

omit [FloatOps F] in
/-- A whole buffer, by its reference. -/
theorem buffer_true (c : Dev nD) : buffer (F := F) true c = iprop(∃ f : Buf (Elt F) ((c : Thread nD τ).loc cc0_scratch0), ((c : Thread nD τ).loc cc0_scratch0) ↦{fullShare} f) := by
  unfold buffer
  rw [show (comm true).view.set = Finset.univ from View.set_whole _]
  rfl
omit [FloatOps F] in
/-- The other one. -/
theorem buffer_false (c : Dev nD) : buffer (F := F) false c = iprop(∃ f : Buf (Elt F) ((c : Thread nD τ).loc cc0_scratch1), ((c : Thread nD τ).loc cc0_scratch1) ↦{fullShare} f) := by
  unfold buffer
  rw [show (comm false).view.set = Finset.univ from View.set_whole _]
  rfl

/-! ## The result -/

variable (X : Dev nD → (cc0_stg0_0 : Ref sig .tc).ty.Contents (Elt F)) (Wt : Dev nD → (cc0_stg1_0 : Ref sig .tc).ty.Contents (Elt F))

/-- A direction's half of chunk `j` of the result: it is finished on the device before device `j`. -/
def res (δ : Bool) (j : Fin 8) : FVec F S256x2048 .f32 := cvF X Wt δ (pv δ j) 7

/-- The chunk that sits on the device before in the same hop. -/
theorem ck_pv (δ : Bool) (c : Dev nD) (h : ℕ) : ck δ (pv δ c) h = ck δ c (h + 1) := by
  unfold ck pv; exact Fin.ext (by cases δ <;> simp only [Bool.false_eq_true, if_true, if_false] <;> omega)

/-- A finished chunk travels on unchanged. -/
theorem cv_res (δ : Bool) (i : ℕ) : ∀ c : Dev nD, cvF X Wt δ c (i + 7) = res X Wt δ (ck δ c (i + 7)) := by
  induction i with
  | zero => intro c; unfold res; rw [show pv δ (ck δ c (0 + 7)) = c by revert δ c; decide]
  | succ i ih =>
    intro c
    rw [show i + 1 + 7 = (i + 7) + 1 by omega, ← cv_late X Wt δ c (show 7 ≤ i + 7 by omega), ih, ck_pv]

/-- The rows of half a chunk. -/
abbrev outR (δ : Bool) (j : Fin 8) : Rect S4096x2048 := Rect.unit (s := S4096x2048) (rowOff δ j) S256x2048.size (rowOff_out δ j)

set_option backward.proofsInPublic true in
/-- The whole result, row by row. -/
def outV : (main_v1 : Ref sig .tc).ty.Contents (Elt F) := fun (i : S4096x2048.Idx) =>
  res X Wt (decide ((i 0).val % 512 < 256)) ⟨(i 0).val / 512, by have : (i 0).val < 4096 := (i 0).isLt; omega⟩
    (Fin.cons ⟨(i 0).val % 256, Nat.mod_lt _ (by decide)⟩ (Fin.cons ⟨(i 1).val, (i 1).isLt⟩ finZeroElim) : S256x2048.Idx)

/-- Half a chunk of it. -/
theorem outV_emb (δ : Bool) (j : Fin 8) (y : S256x2048.Idx) : outV X Wt ((outR δ j).emb y) = res X Wt δ j y := by
  have hy : (y 0).val < 256 := (y 0).isLt
  have h0 : ((outR δ j).emb y 0).val = (512 * j.val + if δ then 0 else 256) + (y 0).val := by
    rw [Rect.emb_apply]; show (512 * j.val + if δ then 0 else 256) + 1 * _ = _; rw [Nat.one_mul]
  have h1 : ((outR δ j).emb y 1).val = (y 1).val := by
    rw [Rect.emb_apply]; show 0 + 1 * (y 1).val = _; omega
  unfold outV
  have e1 : decide (((outR δ j).emb y 0).val % 512 < 256) = δ := by
    rw [h0]; cases δ <;> simp <;> omega
  have e2 : ((outR δ j).emb y 0).val / 512 = j.val := by rw [h0]; cases δ <;> simp <;> omega
  have e3 : ((outR δ j).emb y 0).val % 256 = (y 0).val := by rw [h0]; cases δ <;> simp <;> omega
  simp only [e1, e2]
  congr 1
  funext a
  refine Fin.cases ?_ (fun a => Fin.cases ?_ (fun a => a.elim0) a) a
  · exact Fin.ext e3
  · exact Fin.ext h1

/-- The rows written by hop `i + 6` on device `c`. -/
abbrev rowsAt (c : Dev nD) (t : Bool × Fin 8) : Rect S4096x2048 := outR t.1 (ck t.1 c (t.2.val + 7))

/-- Whether a row is among the rows of half a chunk. -/
theorem mem_outR (δ : Bool) (j : Fin 8) (i : S4096x2048.Idx) : i ∈ (outR δ j).set ↔ (i 0).val / 256 = 2 * j.val + if δ then 0 else 1 := by
  have h1 : (i 1).val < 2048 := (i 1).isLt
  rw [Rect.mem_set_unit]
  constructor
  · intro h
    have := h 0
    change (512 * j.val + if δ then 0 else 256) ≤ (i 0).val ∧ (i 0).val < (512 * j.val + if δ then 0 else 256) + 256 at this
    cases δ <;> simp at this ⊢ <;> omega
  · intro h a
    refine Fin.cases ?_ (fun a => Fin.cases ?_ (fun a => a.elim0) a) a
    · show (512 * j.val + if δ then 0 else 256) ≤ (i 0).val ∧ (i 0).val < (512 * j.val + if δ then 0 else 256) + 256
      cases δ <;> simp at h ⊢ <;> omega
    · show 0 ≤ (i 1).val ∧ (i 1).val < 0 + 2048
      omega

/-- No row is written twice. -/
theorem rows_disjoint (c : Dev nD) (t t' : Bool × Fin 8) (h : t ≠ t') : Disjoint (rowsAt c t).set (rowsAt c t').set := by
  rw [Finset.disjoint_left]
  intro i hi hi'
  rw [mem_outR] at hi hi'
  apply h
  obtain ⟨δ, k⟩ := t
  obtain ⟨δ', k'⟩ := t'
  have hk := k.isLt
  have hk' := k'.isLt
  have e := hi.symm.trans hi'
  unfold ck at e
  cases δ <;> cases δ' <;> simp at e ⊢ <;> first | omega | exact Fin.ext (by omega)

/-- Every row is written. -/
theorem rows_cover (c : Dev nD) : (Finset.univ : Finset (Bool × Fin 8)).biUnion (fun t => (rowsAt c t).set) = Finset.univ := by
  ext i
  simp only [Finset.mem_biUnion, Finset.mem_univ, true_and, iff_true]
  have h0 : (i 0).val < 4096 := (i 0).isLt
  have hc : c.val < 8 := c.isLt
  by_cases h : (i 0).val / 256 % 2 = 0
  · refine ⟨(true, ⟨(c.val + 9 - (i 0).val / 512) % 8, Nat.mod_lt _ (by decide)⟩), ?_⟩
    rw [mem_outR]; unfold ck; simp; omega
  · refine ⟨(false, ⟨((i 0).val / 512 + 9 - c.val) % 8, Nat.mod_lt _ (by decide)⟩), ?_⟩
    rw [mem_outR]; unfold ck; simp; omega

omit [FloatOps F] in
/-- Rows of the result, whatever they hold. -/
theorem outFree_intro (δ : Bool) (c : Dev nD) (h : ℕ) (v : Vec F S256x2048 .f32) :
    (owns (c : Thread nD τ) (outAt δ c h) fullShare v : sProp 𝕄) ⊢ outFree δ c h := by
  unfold owns outFree
  iintro ⟨%g, -, H⟩
  iexists g; iexact H

omit [FloatOps F] in
/-- The result, cut into the rows that the hops fill. -/
theorem out_split (c : Dev nD) (f : Buf (Elt F) ((c : Thread nD τ).loc main_v1)) :
    (((c : Thread nD τ).loc main_v1) ↦{fullShare} f : sProp 𝕄) ⊢ both fun δ => bigSep (Finset.Ico 0 8) fun i => outFree δ c (i + 6) := by
  rw [← owns_whole, ← both_range 8 fun δ i => outFree (F := F) δ c (i + 6)]
  exact (owns_rects (c : Thread nD τ) outM fullShare (rowsAt c) (fun _ _ => rfl) (rows_disjoint c) (rows_cover c) f).trans
    (bigSep_mono fun t _ => outFree_intro t.1 c (t.2.val + 6) _)

/-- The filled rows, put together. -/
theorem out_join (c : Dev nD) :
    both (fun δ => bigSep (Finset.Ico 0 8) fun i => owns (c : Thread nD τ) (outAt δ c (i + 6)) fullShare (cvF X Wt δ c (i + 7)))
      ⊢ (((c : Thread nD τ).loc main_v1) ↦{fullShare} outV X Wt : sProp 𝕄) := by
  rw [← owns_whole, ← both_range 8 fun δ i => owns (c : Thread nD τ) (outAt δ c (i + 6)) fullShare (cvF X Wt δ c (i + 7))]
  have h : ∀ t : Bool × Fin 8, cvF X Wt t.1 c (t.2.val + 7) = fun y => outV X Wt ((rowsAt c t).emb y) := fun t => by
    rw [cv_res]; funext y; exact (outV_emb X Wt _ _ y).symm
  refine BIBase.Entails.trans (Entails.of_eq (bigSep_congr fun t _ => ?_))
    (owns_of_rects (c : Thread nD τ) outM fullShare (rowsAt c) (fun _ _ => rfl) (rows_disjoint c) (rows_cover c) (outV X Wt))
  rw [h t]

end Cert.KernelIdeal.RingProof

end
-- ==== Proof.Deal.lean ====
module

public import proofs.«01_k».proof.Proof.Memory
public import Idealize.ShloMosaic.Lib.Pipeline.BigSepL

@[expose] public section

/-!
# Dealing the ghost state

Before the devices start, the right to make each increment is created at the semaphore it belongs to, once and for
all devices, and dealt to the device that makes the increment: one step round the ring for the incoming copies, the
slot credits and the barrier.
-/

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The semaphores of all devices -/

/-- The semaphores, device by device. -/
abbrev kcell (x : Dev nD × CK) : GSem nD τ sig := cell x.1 x.2

/-- They are different. -/
theorem kcell_inj : Function.Injective kcell := fun a b h => Prod.ext (cell_inj h).1 (cell_inj h).2

/-- All of them. -/
def ringCells : Finset (GSem nD τ sig) := Finset.univ.map ⟨kcell, kcell_inj⟩

/-- The increments at one device's semaphores: two at the barrier; and in each direction fourteen by outgoing copies,
    fourteen by incoming ones, eight by copies to the result, and eleven slot credits. -/
abbrev TI : Type := Fin 2 ⊕ Bool × (Fin 14 ⊕ Fin 14 ⊕ Fin 8 ⊕ Fin 11)

/-- Semaphore, round and number of an increment. -/
def tk : TI → CK × ℕ × ℕ
  | .inl d => (.bar, 0, d.val)
  | .inr (δ, .inl i) => (.send δ (sl i.val), i.val / 4, 0)
  | .inr (δ, .inr (.inl i)) => (.recv δ (sl (i.val + 1)), i.val / 4, 0)
  | .inr (δ, .inr (.inr (.inl i))) => (.store δ (sl (i.val + 7)), i.val / 4, 0)
  | .inr (δ, .inr (.inr (.inr d))) => (.credit δ, 0, d.val)

/-- A hop is known from its slot and its round. -/
theorem sl_round {a b k : ℕ} (h : sl (a + k) = sl (b + k)) (h' : a / 4 = b / 4) : a = b := by
  have := congrArg Fin.val h; change (a + k) % 4 = (b + k) % 4 at this; omega

/-- The increments are told apart. -/
theorem tk_inj : Function.Injective tk := by
  rintro (d | ⟨δ, i | i | i | d⟩) (d' | ⟨δ', i' | i' | i' | d'⟩) h <;>
    simp only [tk, Prod.mk.injEq, CK.send.injEq, CK.recv.injEq, CK.store.injEq, CK.credit.injEq, reduceCtorEq, false_and, true_and, and_true] at h
  · rw [Fin.ext h]
  · obtain ⟨⟨rfl, h1⟩, h2⟩ := h; rw [Fin.ext (sl_round (k := 0) h1 h2)]
  · obtain ⟨⟨rfl, h1⟩, h2⟩ := h; rw [Fin.ext (sl_round h1 h2)]
  · obtain ⟨⟨rfl, h1⟩, h2⟩ := h; rw [Fin.ext (sl_round h1 h2)]
  · obtain ⟨rfl, h1⟩ := h; rw [Fin.ext h1]

/-- An increment on a device. -/
abbrev tokOf (x : Dev nD × TI) : GSem nD τ sig × ℕ × ℕ := (cell x.1 (tk x.2).1, (tk x.2).2)

/-- They are told apart. -/
theorem tokOf_inj : Function.Injective tokOf := fun a b h => by
  have h1 := cell_inj (congrArg Prod.fst h)
  have h2 : (tk a.2).2 = (tk b.2).2 := congrArg (fun x : GSem nD τ sig × ℕ × ℕ => x.2) h
  exact Prod.ext h1.1 (tk_inj (Prod.ext h1.2 h2))

/-- All increments. -/
def ringToks : Finset (GSem nD τ sig × ℕ × ℕ) := Finset.univ.map ⟨tokOf, tokOf_inj⟩

/-! ## Families over one device's semaphores -/

/-- The semaphores of one direction. -/
def half (δ : Bool) (Φ : CK → sProp 𝕄) : sProp 𝕄 :=
  iprop(Φ (.send δ 0) ∗ Φ (.send δ 1) ∗ Φ (.send δ 2) ∗ Φ (.send δ 3) ∗ Φ (.recv δ 0) ∗ Φ (.recv δ 1) ∗ Φ (.recv δ 2) ∗ Φ (.recv δ 3)
    ∗ Φ (.store δ 0) ∗ Φ (.store δ 1) ∗ Φ (.store δ 2) ∗ Φ (.store δ 3) ∗ Φ (.credit δ))

omit [FloatOps F] in
/-- All of a device's semaphores: the barrier and the two directions'. -/
theorem all_halves (Φ : CK → sProp 𝕄) : bigSep Finset.univ Φ = iprop(Φ .bar ∗ both fun δ => half δ Φ) := by
  rw [bigSep_univ_eq_bigSepL ckList (by decide) (by decide)]
  unfold ckList ownList
  show iprop(Φ .bar ∗ bigSepL (ownHalf true ++ ownHalf false) Φ) = _
  rw [bigSepL_append]
  rfl

omit [FloatOps F] in
/-- All of a device's semaphores: the barrier and the others. -/
theorem all_own (Φ : CK → sProp 𝕄) : bigSep Finset.univ Φ = iprop(Φ .bar ∗ bigSep Finset.univ fun k : {k : CK // k ≠ .bar} => Φ k.val) := by
  rw [bigSep_univ_at _ CK.bar]
  have h : Finset.univ.erase CK.bar = (Finset.univ : Finset {k : CK // k ≠ .bar}).map (Function.Embedding.subtype _) := by
    ext x
    simp only [Finset.mem_erase, Finset.mem_univ, and_true, Finset.mem_map, true_and, Function.Embedding.subtype_apply]
    exact ⟨fun h => ⟨⟨x, h⟩, rfl⟩, fun ⟨y, hy⟩ => hy ▸ y.2⟩
  rw [h, bigSep_map]
  rfl

/-- The kernel's own semaphores. -/
abbrev osem (k : {k : CK // k ≠ .bar}) : SemLoc sig := csem k.val

/-- They are the kernel's own. -/
theorem ownSemFacts : Pipeline.OwnSemFacts cfg0.spec osem where
  isScoped k := by
    obtain ⟨k, hk⟩ := k
    cases k with
    | bar => exact absurd rfl hk
    | send δ j => cases δ <;> revert hk <;> fin_cases j <;> exact fun _ => rfl
    | recv δ j => cases δ <;> revert hk <;> fin_cases j <;> exact fun _ => rfl
    | store δ j => cases δ <;> revert hk <;> fin_cases j <;> exact fun _ => rfl
    | credit δ => cases δ <;> rfl
  inj a b h := Subtype.ext (csem_injective h)
  disj k w s h := by
    have h1 := congrArg dec h
    rw [dec_csem] at h1
    revert h1
    fin_cases w <;> fin_cases s <;> exact fun h1 => by cases h1

omit [FloatOps F] in
/-- At the start: every counter at zero. -/
theorem sems0_eq (c : Dev nD) :
    iprop(Pipeline.ownSems0 (Ix := ℕ) (Name := ℕ) (U := UU) (Lvl := ℕ) (Val := Elt F) (τ := τ) osem c ∗ unscopedSems0 c)
      = (bigSep Finset.univ fun k : CK => semVal (cell c k) 0 : sProp 𝕄) := by
  rw [all_own]
  have h : (unscopedSems0 c : sProp 𝕄) = semVal (cell c .bar) 0 := by
    unfold unscopedSems0; rw [bigSep_eq_bigSepL_of_eq [csem .bar] (by decide) (by decide)]; rfl
  rw [h]
  unfold Pipeline.ownSems0
  exact BI.equiv_iff.mp ⟨BI.sep_comm, BI.sep_comm⟩

/-! ## What is dealt -/

variable (cv : Bool → Dev nD → ℕ → Vec F S256x2048 .f32)

/-- The increments at a device's own semaphores. -/
def mint (c : Dev nD) : sProp 𝕄 :=
  iprop((dutyTok ER (cell c .bar) 0 0 ∗ dutyTok ER (cell c .bar) 0 1)
    ∗ both fun δ => iprop((bigSep (Finset.Ico 0 14) fun i => dutyTok ER (cell c (.send δ (sl i))) (i / 4) 0)
      ∗ (bigSep (Finset.Ico 0 14) fun i => dutyTok ER (cell c (.recv δ (sl (i + 1)))) (i / 4) 0)
      ∗ (bigSep (Finset.Ico 0 8) fun i => dutyTok ER (cell c (.store δ (sl (i + 7)))) (i / 4) 0)
      ∗ (bigSep (Finset.Ico 0 11) fun i => dutyTok ER (cell c (.credit δ)) 0 i)))

/-- The increments a device makes. -/
def payToks (c : Dev nD) : sProp 𝕄 :=
  iprop((dutyTok ER (cell (pv false c) .bar) 0 0 ∗ dutyTok ER (cell (pv true c) .bar) 0 1)
    ∗ both fun δ => iprop((bigSep (Finset.Ico 0 14) fun i => dutyTok ER (cell c (.send δ (sl i))) (i / 4) 0)
      ∗ (bigSep (Finset.Ico 0 14) fun i => dutyTok ER (cell (nx δ c) (.recv δ (sl (i + 1)))) (i / 4) 0)
      ∗ (bigSep (Finset.Ico 0 8) fun i => dutyTok ER (cell c (.store δ (sl (i + 7)))) (i / 4) 0)
      ∗ Cg δ c 0))

omit [FloatOps F] in
/-- The created increments, sorted. -/
theorem mint_eq (c : Dev nD) :
    (bigSep Finset.univ fun t : TI => dutyTok ER (cell c (tk t).1) (tk t).2.1 (tk t).2.2 : sProp 𝕄) = mint c := by
  rw [bigSep_univ_sum, bigSep_univ_eq_bigSepL [(0 : Fin 2), 1] (by decide) (by decide), bigSep_univ_prod, bool_both]
  unfold mint both
  beta_reduce
  rw [bigSep_univ_sum, bigSep_univ_sum, bigSep_univ_sum, bigSep_univ_sum, bigSep_univ_sum, bigSep_univ_sum]
  simp only [← fin_range]
  rfl

omit [FloatOps F] in
/-- The increments, dealt round the ring. -/
theorem deal : (bigSep Finset.univ fun c : Dev nD => (mint c : sProp 𝕄)) ⊢ bigSep Finset.univ fun c : Dev nD => payToks c := by
  unfold mint payToks both Cg
  simp only [bigSep_sep']
  rw [bigSep_univ_equiv (ring false).symm (fun c : Dev nD => (dutyTok ER (cell c .bar) 0 0 : sProp 𝕄)),
    bigSep_univ_equiv (ring true).symm (fun c : Dev nD => (dutyTok ER (cell c .bar) 0 1 : sProp 𝕄)),
    bigSep_univ_equiv (ring true) (fun c : Dev nD => (bigSep (Finset.Ico 0 14) fun i => dutyTok ER (cell c (.recv true (sl (i + 1)))) (i / 4) 0 : sProp 𝕄)),
    bigSep_univ_equiv (ring false) (fun c : Dev nD => (bigSep (Finset.Ico 0 14) fun i => dutyTok ER (cell c (.recv false (sl (i + 1)))) (i / 4) 0 : sProp 𝕄)),
    bigSep_univ_equiv (ring true).symm (fun c : Dev nD => (bigSep (Finset.Ico 0 11) fun i => dutyTok ER (cell c (.credit true)) 0 i : sProp 𝕄)),
    bigSep_univ_equiv (ring false).symm (fun c : Dev nD => (bigSep (Finset.Ico 0 11) fun i => dutyTok ER (cell c (.credit false)) 0 i : sProp 𝕄))]
  exact BIBase.Entails.rfl

/-- A device's places at the start. -/
def places (c : Dev nD) : sProp 𝕄 := bigSep Finset.univ fun k : CK => atPos ER (cell c k) 0 ∅ 0

/-- What the launch makes for device `c`. -/
def G (c : Dev nD) : sProp 𝕄 :=
  iprop((bigSep Finset.univ fun k : CK => roundState ER (Rd cv) (cell c k) 0)
    ∗ (bigSep Finset.univ fun k : CK => iprop(atPos ER (cell c k) 0 ∅ 0 ∗ reached ER (cell c k) 0)) ∗ mint c)

/-- That all semaphores follow the schedule. -/
def records (K : Dev nD × CK → ℕ) : sProp 𝕄 :=
  iprop((bigSep Finset.univ fun ck : Dev nD × CK => cellInv ER (Rd cv) (K ck) (cell ck.1 ck.2))
    ∗ bigSep Finset.univ fun ck : Dev nD × CK => reached ER (cell ck.1 ck.2) 0)

instance records_persistent (K : Dev nD × CK → ℕ) : BI.Persistent (records cv K) := by unfold records; infer_instance

/-- What device `c` has of it when it starts. -/
def G' (c : Dev nD) : sProp 𝕄 := iprop(∃ K, records cv K ∗ places c ∗ payToks c)

omit [FloatOps F] in
/-- The middle two of four parts, exchanged. -/
theorem swap_mid (A B C D : sProp 𝕄) : iprop(A ∗ B ∗ C ∗ D) ⊢ iprop(A ∗ (C ∗ B) ∗ D) := by
  iintro ⟨H1, H2, H3, H4⟩
  isplitl [H1]; · iexact H1
  isplitl [H2 H3]
  · isplitl [H3]; · iexact H3
    iexact H2
  iexact H4

/-- The launch element's part for the rings. -/
theorem fund_ring : BI.own (ER (initOf ringCells ringToks)) ⊢ (|==> bigSep Finset.univ (G cv) : sProp 𝕄) := by
  have hX (Φ : GSem nD τ sig → sProp 𝕄) : bigSep ringCells Φ = bigSep Finset.univ fun c : Dev nD => bigSep Finset.univ fun k : CK => Φ (cell c k) := by
    unfold ringCells; rw [bigSep_map, bigSep_univ_prod]; rfl
  have hT : bigSep ringToks (fun x => (dutyTok ER x.1 x.2.1 x.2.2 : sProp 𝕄)) = bigSep Finset.univ fun c : Dev nD => mint c := by
    unfold ringToks; rw [bigSep_map, bigSep_univ_prod]
    exact bigSep_congr fun c _ => mint_eq (F := F) c
  refine (Rounds.fund ER (Rd cv) ringCells ringToks).trans (BI.bupd_mono ?_)
  rw [hX, hX, hX, hT]
  have hG : bigSep Finset.univ (G cv) = iprop((bigSep Finset.univ fun c : Dev nD => bigSep Finset.univ fun k : CK => roundState ER (Rd cv) (cell c k) 0)
      ∗ ((bigSep Finset.univ fun c : Dev nD => bigSep Finset.univ fun k : CK => atPos ER (cell c k) 0 ∅ 0)
        ∗ bigSep Finset.univ fun c : Dev nD => bigSep Finset.univ fun k : CK => reached ER (cell c k) 0)
      ∗ bigSep Finset.univ fun c : Dev nD => mint c) := by
    unfold G; simp only [bigSep_sep']
  rw [hG]
  exact swap_mid _ _ _ _

/-- One device's counters become counters that follow the schedule. -/
theorem core_alloc (c : Dev nD) :
    iprop(Pipeline.ownSems0 (Ix := ℕ) (Name := ℕ) (U := UU) (Lvl := ℕ) (Val := Elt F) (τ := τ) osem c ∗ unscopedSems0 c ∗ G cv c)
      ⊢ |={Set.univ}=> iprop((bigSep Finset.univ fun k : CK => iprop(∃ κ : ℕ, cellInv ER (Rd cv) κ (cell c k)))
          ∗ (bigSep Finset.univ fun k : CK => iprop(atPos ER (cell c k) 0 ∅ 0 ∗ reached ER (cell c k) 0)) ∗ mint c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun k : CK => semVal (cell c k) 0) ∗ bigSep Finset.univ fun k : CK => roundState ER (Rd cv) (cell c k) 0)
      ⊢ (|={Set.univ}=> bigSep Finset.univ fun k : CK => iprop(∃ κ : ℕ, cellInv ER (Rd cv) κ (cell c k)) : sProp 𝕄) from by
        rw [← bigSep_sep']
        exact (bigSep_mono fun k _ => (Rounds.body_intro ER (Rd cv) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- A fact that is kept, given to every member of a family. -/
theorem with_fact {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- The step for all devices together. -/
theorem regroup :
    (bigSep Finset.univ fun c : Dev nD => iprop((bigSep Finset.univ fun k : CK => iprop(∃ κ : ℕ, cellInv ER (Rd cv) κ (cell c k)))
          ∗ (bigSep Finset.univ fun k : CK => iprop(atPos ER (cell c k) 0 ∅ 0 ∗ reached ER (cell c k) 0)) ∗ mint c) : sProp 𝕄)
      ⊢ bigSep Finset.univ (G' cv) := by
  rw [bigSep_sep', bigSep_sep', ← bigSep_univ_prod (fun ck : Dev nD × CK => iprop(∃ κ : ℕ, cellInv ER (Rd cv) κ (cell ck.1 ck.2))),
    bigSep_congr (s := Finset.univ) (fun (c : Dev nD) _ => bigSep_sep' Finset.univ (fun k : CK => (atPos ER (cell c k) 0 ∅ 0 : sProp 𝕄)) (fun k => reached ER (cell c k) 0)),
    bigSep_sep', ← bigSep_univ_prod (fun ck : Dev nD × CK => (reached ER (cell ck.1 ck.2) 0 : sProp 𝕄))]
  iintro ⟨HI, ⟨Hat, #HR⟩, Htok⟩
  ihave HK := (BI.bigSep_exists_pi Finset.univ (fun (ck : Dev nD × CK) (κ : ℕ) => (cellInv ER (Rd cv) κ (cell ck.1 ck.2) : sProp 𝕄))) $$ HI
  icases HK with ⟨%K, #HI⟩
  ihave Htk := (deal (F := F)) $$ Htok
  have hg : ∀ c, iprop(records cv K ∗ (places c ∗ payToks c)) ⊢ G' cv c := fun c => by
    unfold G'
    iintro ⟨H1, H2⟩
    iexists K
    isplitl [H1]; · iexact H1
    iexact H2
  iapply (with_fact (R := records cv K) hg)
  isplitr
  · unfold records; isplitl; · iexact HI
    iexact HR
  · iapply (Entails.of_eq (bigSep_sep' Finset.univ places payToks).symm)
    isplitl [Hat]; · unfold places; iexact Hat
    iexact Htk

/-- The step for all devices together, from the counters. -/
theorem glob : (bigSep Finset.univ fun c => iprop(Pipeline.ownSems0 (Ix := ℕ) (Name := ℕ) (U := UU) (Lvl := ℕ) (Val := Elt F) (τ := τ) osem c ∗ unscopedSems0 c ∗ G cv c) : sProp 𝕄)
    ⊢ |={Set.univ}=> bigSep Finset.univ (G' cv) :=
  ((bigSep_mono fun c _ => core_alloc cv c).trans (bigSep_fupd _ _)).trans (BI.fupd_mono (regroup cv))

/-! ## The credits -/

omit [FloatOps F] in
/-- If device `d` owes the device that a permutation names, every device is owed. -/
theorem credit_one (e : Dev nD ≃ Dev nD) (k : CK) (i n : ℕ) (c : Dev nD) :
    (Pipeline.launchCred (fun d => tallyAt (cell (e d) k) i n) c : sProp 𝕄) ⊢ cred (tallyAt (cell c k) i n) := by
  refine (Pipeline.launchCred_elim _ c (csem k)).trans (Entails.of_eq ?_)
  congr 1
  unfold tallyAt
  refine congrArg _ (Finsupp.ext fun u => ?_)
  rw [Pipeline.launchCredit_owing, Fintype.sum_eq_single (e.symm c)]
  · show (tallyAt (cell (e (e.symm c)) k) i n : CellTallies nD τ sig ℕ) (cell c k) u = _
    rw [Equiv.apply_symm_apply, tallyAt_apply, Finsupp.single_apply]
    simp only [true_and, eq_comm]
  · intro d hd
    show (tallyAt (cell (e d) k) i n : CellTallies nD τ sig ℕ) (cell c k) u = 0
    rw [tallyAt_apply, if_neg]
    rintro ⟨h, -⟩
    exact hd ((Equiv.eq_symm_apply e).mpr (cell_inj h).1.symm)

/-- What is owed to a device at the start. -/
def credsIn (c : Dev nD) : sProp 𝕄 :=
  iprop(cred (tallyAt (cell c .bar) 0 2)
    ∗ both (fun δ => bigSep (Finset.Ico 0 14) fun i => cred (tallyAt (cell c (.recv δ (sl (i + 1)))) i N))
    ∗ both (fun δ => bigSep (Finset.Ico 0 11) fun i => cred (tallyAt (cell c (.credit δ)) i 1)))

omit [FloatOps F] in
/-- The launch gives it. -/
theorem creds (c : Dev nD) : (Pipeline.launchCred O₀ c : sProp 𝕄) ⊢ credsIn c := by
  have hR : ∀ δ, (Pipeline.launchCred (fun d => oR δ d 0) c : sProp 𝕄) ⊢ bigSep (Finset.Ico 0 14) fun i => cred (tallyAt (cell c (.recv δ (sl (i + 1)))) i N) := fun δ => by
    unfold oR
    rw [Pipeline.launchCred_sum (Finset.Ico 0 14) (fun i d => tallyAt (cell (nx δ d) (.recv δ (sl (i + 1)))) i N)]
    exact bigSep_mono fun i _ => credit_one (ring δ) _ i N c
  have hC : ∀ δ, (Pipeline.launchCred (fun d => oC δ d 0) c : sProp 𝕄) ⊢ bigSep (Finset.Ico 0 11) fun i => cred (tallyAt (cell c (.credit δ)) i 1) := fun δ => by
    unfold oC
    rw [Pipeline.launchCred_sum (Finset.Ico 0 11) (fun i d => tallyAt (cell (pv δ d) (.credit δ)) i 1)]
    exact bigSep_mono fun i _ => credit_one (ring δ).symm _ i 1 c
  have hB : ∀ δ, (Pipeline.launchCred (fun d => tallyAt (cell (pv δ d) .bar) 0 1) c : sProp 𝕄) ⊢ cred (tallyAt (cell c .bar) 0 1) := fun δ =>
    credit_one (ring δ).symm _ 0 1 c
  have hO : (Pipeline.launchCred O₀ c : sProp 𝕄) = iprop(((((Pipeline.launchCred (fun d => oR true d 0) c ∗ Pipeline.launchCred (fun d => oR false d 0) c)
      ∗ Pipeline.launchCred (fun d => oC true d 0) c) ∗ Pipeline.launchCred (fun d => oC false d 0) c)
      ∗ Pipeline.launchCred (fun d => tallyAt (cell (pv false d) .bar) 0 1) c) ∗ Pipeline.launchCred (fun d => tallyAt (cell (pv true d) .bar) 0 1) c) := by
    rw [← Pipeline.launchCred_add, ← Pipeline.launchCred_add, ← Pipeline.launchCred_add, ← Pipeline.launchCred_add, ← Pipeline.launchCred_add]
    rfl
  rw [hO]
  unfold credsIn both
  iintro ⟨⟨⟨⟨⟨H1, H2⟩, H3⟩, H4⟩, H5⟩, H6⟩
  isplitl [H5 H6]
  · rw [show (tallyAt (cell c .bar) 0 2 : CellTallies nD τ sig ℕ) = tallyAt (cell c .bar) 0 1 + tallyAt (cell c .bar) 0 1 from (tallyAt_add _ _ 1 1).symm]
    iapply (cred_add (tallyAt (cell c .bar) 0 1) (tallyAt (cell c .bar) 0 1)).2
    isplitl [H5]
    · iapply (hB false); iexact H5
    · iapply (hB true); iexact H6
  isplitl [H1 H2]
  · isplitl [H1]
    · iapply (hR true); iexact H1
    · iapply (hR false); iexact H2
  · isplitl [H3]
    · iapply (hC true); iexact H3
    · iapply (hC false); iexact H4

end Cert.KernelIdeal.RingProof

end
-- ==== Proof.Edges.lean ====
module

public import proofs.«01_k».proof.Proof.Chain
public import proofs.«01_k».proof.Proof.Deal

@[expose] public section

/-!
# Before and after the kernel

From what the launch deals, a device has what the kernel starts from. From what the kernel ends with, every semaphore
is back at zero, both buffers are whole again, and the result array holds its sixteen parts.
-/

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Before -/

section Before

variable (cv : Bool → Dev nD → ℕ → Vec F S256x2048 .f32)
variable (K : Dev nD × CK → ℕ)

omit [FloatOps F] in
/-- A place at round 0 of a semaphore, with that the round is open. -/
theorem place_open (g : GSem nD τ sig) : iprop(reached ER g 0 ∗ atPos ER g 0 ∅ 0) ⊢ (iprop(atPos ER g 0 ∅ 0 ∗ reached ER g 0) : sProp 𝕄) := by
  iintro ⟨H1, H2⟩
  isplitl [H2]; · iexact H2
  iexact H1

/-- A place at round 0 of a device's semaphore, with that the round is open. -/
theorem place_at (c : Dev nD) (k : CK) :
    iprop(known cv K ∗ atPos ER (cell c k) 0 ∅ 0) ⊢ iprop(atPos ER (cell c k) 0 ∅ 0 ∗ reached ER (cell c k) 0) :=
  (sep_mono_left (known_reached cv K c k)).trans (place_open _)

/-- The places of one direction. -/
theorem places_half (δ : Bool) (c : Dev nD) :
    iprop(known cv K ∗ half δ fun k => atPos ER (cell c k) 0 ∅ 0)
      ⊢ iprop(conv (posS δ c) 0 ∗ conv (posR δ c) 0 ∗ conv (posT δ c) 0 ∗ posC δ c 0) := by
  unfold half
  iintro ⟨#HK, S0, S1, S2, S3, R0, R1, R2, R3, T0, T1, T2, T3, HC⟩
  isplitl [S0 S1 S2 S3]
  · unfold conv posS
    isplitl [S0]; · iapply (place_at cv K c (.send δ 0)); isplitr; · iexact HK
                    iexact S0
    isplitl [S1]; · iapply (place_at cv K c (.send δ 1)); isplitr; · iexact HK
                    iexact S1
    isplitl [S2]; · iapply (place_at cv K c (.send δ 2)); isplitr; · iexact HK
                    iexact S2
    iapply (place_at cv K c (.send δ 3)); isplitr; · iexact HK
    iexact S3
  isplitl [R0 R1 R2 R3]
  · unfold conv posR
    isplitl [R1]; · iapply (place_at cv K c (.recv δ 1)); isplitr; · iexact HK
                    iexact R1
    isplitl [R2]; · iapply (place_at cv K c (.recv δ 2)); isplitr; · iexact HK
                    iexact R2
    isplitl [R3]; · iapply (place_at cv K c (.recv δ 3)); isplitr; · iexact HK
                    iexact R3
    iapply (place_at cv K c (.recv δ 0)); isplitr; · iexact HK
    iexact R0
  isplitl [T0 T1 T2 T3]
  · unfold conv posT
    isplitl [T3]; · iapply (place_at cv K c (.store δ 3)); isplitr; · iexact HK
                    iexact T3
    isplitl [T0]; · iapply (place_at cv K c (.store δ 0)); isplitr; · iexact HK
                    iexact T0
    isplitl [T1]; · iapply (place_at cv K c (.store δ 1)); isplitr; · iexact HK
                    iexact T1
    iapply (place_at cv K c (.store δ 2)); isplitr; · iexact HK
    iexact T2
  unfold posC
  iexists ∅
  isplitr; · ipureintro; decide
  iexact HC

omit [FloatOps F] in
/-- Three families together. -/
theorem zip3 (S : Finset ℕ) (Φ Ψ Ξ : ℕ → sProp 𝕄) :
    iprop(bigSep S Φ ∗ bigSep S Ψ ∗ bigSep S Ξ) ⊢ bigSep S fun i => iprop(Φ i ∗ Ψ i ∗ Ξ i) := by
  rw [bigSep_sep', bigSep_sep']
omit [FloatOps F] in
/-- Two families together. -/
theorem zip2 (S : Finset ℕ) (Φ Ψ : ℕ → sProp 𝕄) : iprop(bigSep S Φ ∗ bigSep S Ψ) ⊢ bigSep S fun i => iprop(Φ i ∗ Ψ i) := by
  rw [bigSep_sep']
omit [FloatOps F] in
/-- An empty range. -/
theorem range_nil (a : ℕ) (Φ : ℕ → sProp 𝕄) : (iprop(emp) : sProp 𝕄) ⊢ bigSep (Finset.Ico a a) Φ := by
  rw [Finset.Ico_self, bigSep_empty]
  exact BIBase.Entails.rfl

/-- What the copies to the result start from. -/
theorem stores_in (δ : Bool) (c : Dev nD) :
    iprop((bigSep (Finset.Ico 0 8) fun i => dutyTok ER (cell c (.store δ (sl (i + 7)))) (i / 4) 0)
        ∗ (bigSep (Finset.Ico 0 8) fun i => outFree (F := F) δ c (i + 6)) ∗ conv (posT δ c) 0) ⊢ T cv δ c 0 0 := by
  unfold T
  iintro ⟨H1, H2, H3⟩
  isplitl [H1 H2]
  · iapply (zip2 (Finset.Ico 0 8) (fun i => (dutyTok ER (cell c (.store δ (sl (i + 7)))) (i / 4) 0 : sProp 𝕄)) fun i => outFree (F := F) δ c (i + 6))
    isplitl [H1]; · iexact H1
    iexact H2
  isplitr; · iapply (range_nil (F := F) 0 _); iempintro
  isplitl [H3]; · iexact H3
  iapply (range_nil (F := F) 0 _); iempintro

variable (X : (d : Dev nD) → (cc0_stg0_0 : Ref sig .tc).ty.Contents (Elt F)) (Wt : (d : Dev nD) → (cc0_stg1_0 : Ref sig .tc).ty.Contents (Elt F))

/-- What a device is dealt, and the two buffers and the result array at any contents, are what the kernel starts from. -/
theorem enter (c : Dev nD) (f : Buf (Elt F) ((c : Thread nD τ).loc main_v1)) :
    iprop(known (cvF X Wt) K ∗ places c ∗ payToks c ∗ credsIn c ∗ (((c : Thread nD τ).loc main_v1) ↦{fullShare} f)
        ∗ buffer true c ∗ buffer false c ∗ due c (O₀ c) ∗ xw X Wt c) ⊢ bodyIn X Wt K c := by
  unfold places
  rw [all_halves]
  unfold payToks credsIn bodyIn barIn both
  beta_reduce
  iintro ⟨#HK, ⟨HB, Pt, Pf⟩, ⟨⟨B0, B1⟩, ⟨St, Rt, Tt, Ct⟩, ⟨Sf, Rf, Tf, Cf⟩⟩, ⟨HcB, ⟨cRt, cRf⟩, ⟨cCt, cCf⟩⟩, Hv, Ft, Ff, HO, HX⟩
  ihave Pt := (places_half (cvF X Wt) K true c) $$ [Pt]
  · isplitr; · iexact HK
    iexact Pt
  ihave Pf := (places_half (cvF X Wt) K false c) $$ [Pf]
  · isplitr; · iexact HK
    iexact Pf
  ihave Ft := (slots_split true c) $$ Ft
  ihave Ff := (slots_split false c) $$ Ff
  ihave Hv := (out_split c f) $$ Hv
  unfold both
  beta_reduce
  icases Pt with ⟨pSt, pRt, pTt, pCt⟩
  icases Pf with ⟨pSf, pRf, pTf, pCf⟩
  icases Ft with ⟨t0, t1, t2, t3⟩
  icases Ff with ⟨f0, f1, f2, f3⟩
  icases Hv with ⟨vt, vf⟩
  isplitr; · iexact HK
  isplitl [HO]; · iexact HO
  isplitl [HX]; · iexact HX
  isplitl [B0 B1 HcB HB t1 t2 f1 f2]
  · isplitl [B1]; · iexact B1
    isplitl [B0]; · iexact B0
    isplitl [HcB]; · iexact HcB
    isplitl [HB]; · iexact HB
    isplitl [t1 t2]
    · isplitl [t1]; · iexact t1
      iexact t2
    isplitl [f1]; · iexact f1
    iexact f2
  isplitl [t0 f0]
  · isplitl [t0]; · iexact t0
    iexact f0
  isplitl [t3 f3]
  · isplitl [t3]; · iexact t3
    iexact f3
  isplitl [St Rt cRt pSt pRt Sf Rf cRf pSf pRf]
  · isplitl [St Rt cRt pSt pRt]
    · isplitl [St Rt cRt]
      · unfold toks tok
        iapply (zip3 (F := F) (Finset.Ico 0 14) _ _ _)
        isplitl [St]; · iexact St
        isplitl [Rt]; · iexact Rt
        iexact cRt
      isplitl [pSt]; · iexact pSt
      iexact pRt
    isplitl [Sf Rf cRf]
    · unfold toks tok
      iapply (zip3 (F := F) (Finset.Ico 0 14) _ _ _)
      isplitl [Sf]; · iexact Sf
      isplitl [Rf]; · iexact Rf
      iexact cRf
    isplitl [pSf]; · iexact pSf
    iexact pRf
  isplitl [Ct Cf]
  · isplitl [Ct]; · iexact Ct
    iexact Cf
  isplitl [pCt cCt pCf cCf]
  · unfold Cw
    isplitl [pCt cCt]
    · isplitl [pCt]; · iexact pCt
      iexact cCt
    isplitl [pCf]; · iexact pCf
    iexact cCf
  isplitl [Tt vt pTt]
  · iapply (stores_in (cvF X Wt) true c)
    isplitl [Tt]; · iexact Tt
    isplitl [vt]; · iexact vt
    iexact pTt
  iapply (stores_in (cvF X Wt) false c)
  isplitl [Tf]; · iexact Tf
  isplitl [vf]; · iexact vf
  iexact pTf

end Before

/-! ## After -/

section After

variable (cv : Bool → Dev nD → ℕ → Vec F S256x2048 .f32)
variable (K : Dev nD × CK → ℕ)

/-- A semaphore whose schedule is over is at zero. -/
theorem close_one (c : Dev nD) (k : CK) {R : ℕ} (hR : ∀ r, R ≤ r → dut k r = ∅) :
    iprop(known cv K ∗ atPos ER (cell c k) R ∅ 0) ⊢ |={Set.univ}=> semVal (cell c k) 0 :=
  (sep_mono_left (known_inv cv K c k)).trans
    (Rounds.cell_close ER (Rd cv) (Set.mem_univ _) (fun h => h) fun r hr => (Rd_duties cv c k r).trans (hR r hr))

/-- The same, of a place that says its round is open. -/
theorem close_pos (c : Dev nD) (k : CK) {R : ℕ} (hR : ∀ r, R ≤ r → dut k r = ∅) :
    iprop(known cv K ∗ atPos ER (cell c k) R ∅ 0 ∗ reached ER (cell c k) R) ⊢ |={Set.univ}=> semVal (cell c k) 0 := by
  refine BIBase.Entails.trans ?_ (close_one cv K c k hR)
  iintro ⟨H1, H2, -⟩
  isplitl [H1]; · iexact H1
  iexact H2

/-- Outgoing copies end with hop 13. -/
theorem end_send (δ : Bool) {h : ℕ} (hh : 14 ≤ h) (r : ℕ) (hr : h / 4 ≤ r) : dut (.send δ (sl h)) r = ∅ := by
  unfold dut sl; exact if_neg (by show ¬ 4 * r + h % 4 < 14; omega)
/-- So do incoming ones. -/
theorem end_recv (δ : Bool) {h : ℕ} (hh : 14 ≤ h) (r : ℕ) (hr : h / 4 ≤ r) : dut (.recv δ (sl (h + 1))) r = ∅ := by
  unfold dut sl; exact if_neg (by show ¬ 4 * r + ((h + 1) % 4 + 3) % 4 < 14; omega)
/-- Copies to the result end with the eighth. -/
theorem end_store (δ : Bool) {i : ℕ} (hi : 8 ≤ i) (r : ℕ) (hr : i / 4 ≤ r) : dut (.store δ (sl (i + 7))) r = ∅ := by
  unfold dut; exact if_neg (by omega)

/-- The slot credits all taken. -/
theorem close_credit (δ : Bool) (c : Dev nD) : iprop(known cv K ∗ posC δ c 11) ⊢ |={Set.univ}=> semVal (cell c (.credit δ)) 0 := by
  unfold posC
  iintro ⟨#HK, ⟨%S, %hS, Ha⟩⟩
  have hT : (Rd cv).duties (cell c (.credit δ)) 0 ⊆ S := by
    rw [Rd_duties]
    show Finset.range 11 ⊆ S
    exact Finset.sdiff_eq_empty_iff_subset.mp (Finset.card_eq_zero.mp (by omega))
  have hm : 11 = (Rd cv).expect (cell c (.credit δ)) 0 := by rw [Rd_expect]; rfl
  ihave HI := (known_inv cv K c (.credit δ)) $$ HK
  imod (Rounds.fupd_skip ER (Rd cv) hT hm (Set.mem_univ _)) $$ [HI Ha] with ⟨Ha, -⟩
  · isplitl [HI]; · iexact HI
    iexact Ha
  iapply (close_one cv K c (.credit δ) (R := 1) fun r hr => if_neg (by omega))
  isplitr; · iexact HK
  iexact Ha

/-- All of one direction's semaphores. -/
theorem close_half (δ : Bool) (c : Dev nD) :
    iprop(known cv K ∗ conv (posS δ c) 14 ∗ conv (posR δ c) 14 ∗ conv (posT δ c) 8 ∗ posC δ c 11)
      ⊢ |={Set.univ}=> half δ fun k => semVal (cell c k) 0 := by
  unfold conv posS posR posT half
  iintro ⟨#HK, ⟨S2, S3, S0, S1⟩, ⟨R3, R0, R1, R2⟩, ⟨T3, T0, T1, T2⟩, HC⟩
  imod (close_pos cv K c (.send δ (sl 14)) (end_send δ (h := 14) (by omega))) $$ [S2] with S2
  · isplitr; · iexact HK
    iexact S2
  imod (close_pos cv K c (.send δ (sl 15)) (end_send δ (h := 15) (by omega))) $$ [S3] with S3
  · isplitr; · iexact HK
    iexact S3
  imod (close_pos cv K c (.send δ (sl 16)) (end_send δ (h := 16) (by omega))) $$ [S0] with S0
  · isplitr; · iexact HK
    iexact S0
  imod (close_pos cv K c (.send δ (sl 17)) (end_send δ (h := 17) (by omega))) $$ [S1] with S1
  · isplitr; · iexact HK
    iexact S1
  imod (close_pos cv K c (.recv δ (sl 15)) (end_recv δ (h := 14) (by omega))) $$ [R3] with R3
  · isplitr; · iexact HK
    iexact R3
  imod (close_pos cv K c (.recv δ (sl 16)) (end_recv δ (h := 15) (by omega))) $$ [R0] with R0
  · isplitr; · iexact HK
    iexact R0
  imod (close_pos cv K c (.recv δ (sl 17)) (end_recv δ (h := 16) (by omega))) $$ [R1] with R1
  · isplitr; · iexact HK
    iexact R1
  imod (close_pos cv K c (.recv δ (sl 18)) (end_recv δ (h := 17) (by omega))) $$ [R2] with R2
  · isplitr; · iexact HK
    iexact R2
  imod (close_pos cv K c (.store δ (sl 15)) (end_store δ (i := 8) (by omega))) $$ [T3] with T3
  · isplitr; · iexact HK
    iexact T3
  imod (close_pos cv K c (.store δ (sl 16)) (end_store δ (i := 9) (by omega))) $$ [T0] with T0
  · isplitr; · iexact HK
    iexact T0
  imod (close_pos cv K c (.store δ (sl 17)) (end_store δ (i := 10) (by omega))) $$ [T1] with T1
  · isplitr; · iexact HK
    iexact T1
  imod (close_pos cv K c (.store δ (sl 18)) (end_store δ (i := 11) (by omega))) $$ [T2] with T2
  · isplitr; · iexact HK
    iexact T2
  imod (close_credit cv K δ c) $$ [HC] with HC
  · isplitr; · iexact HK
    iexact HC
  imodintro
  isplitl [S0]; · iexact S0
  isplitl [S1]; · iexact S1
  isplitl [S2]; · iexact S2
  isplitl [S3]; · iexact S3
  isplitl [R0]; · iexact R0
  isplitl [R1]; · iexact R1
  isplitl [R2]; · iexact R2
  isplitl [R3]; · iexact R3
  isplitl [T0]; · iexact T0
  isplitl [T1]; · iexact T1
  isplitl [T2]; · iexact T2
  isplitl [T3]; · iexact T3
  iexact HC

/-- A buffer, from the eight halves of its slots. -/
theorem buffer_back (δ : Bool) (c : Dev nD) :
    iprop((lh cv δ c 14 ∗ rh cv δ c 14) ∗ (lh cv δ c 13 ∗ rh cv δ c 13) ∗ (lh cv δ c 12 ∗ rh cv δ c 12) ∗ (lh cv δ c 11 ∗ rh cv δ c 11)) ⊢ buffer (F := F) δ c := by
  refine BIBase.Entails.trans ?_ (slots_join δ c)
  iintro ⟨H2, H1, H0, H3⟩
  ihave H2 := (freed cv δ c 14) $$ H2
  ihave H1 := (freed cv δ c 13) $$ H1
  ihave H0 := (freed cv δ c 12) $$ H0
  ihave H3 := (freed cv δ c 11) $$ H3
  isplitl [H0]; · iexact H0
  isplitl [H1]; · iexact H1
  isplitl [H2]; · iexact H2
  iexact H3

variable (X : (d : Dev nD) → (cc0_stg0_0 : Ref sig .tc).ty.Contents (Elt F)) (Wt : (d : Dev nD) → (cc0_stg1_0 : Ref sig .tc).ty.Contents (Elt F))

/-- What a device has after the kernel. -/
def done (c : Dev nD) : sProp 𝕄 :=
  iprop((bigSep Finset.univ fun k : CK => semVal (cell c k) 0) ∗ buffer true c ∗ buffer false c
    ∗ (((c : Thread nD τ).loc main_v1) ↦{fullShare} outV X Wt))

/-- It has it. -/
theorem leave (c : Dev nD) : bodyOut X Wt K c ⊢ |={Set.univ}=> iprop(done X Wt c ∗ due c 0 ∗ xw X Wt c) := by
  unfold done
  rw [all_halves]
  unfold bodyOut St rights lefts H Cw T both
  beta_reduce
  rw [ow_end c (by omega)]
  iintro ⟨⟨#HK, HO, HX, ⟨⟨-, pSt, pRt, -⟩, ⟨-, pSf, pRf, -⟩⟩, -, ⟨⟨pCt, -⟩, ⟨pCf, -⟩⟩, ⟨⟨-, -, pTt, vt⟩, ⟨-, -, pTf, vf⟩⟩, ⟨lt14, lf14⟩⟩,
    ⟨rt14, rf14⟩, ⟨rt13, rf13⟩, ⟨rt12, rf12⟩, ⟨rt11, rf11⟩, ⟨lt13, lf13⟩, ⟨lt12, lf12⟩, ⟨lt11, lf11⟩, HB⟩
  imod (close_half (cvF X Wt) K true c) $$ [pSt pRt pTt pCt] with Ht
  · isplitr; · iexact HK
    isplitl [pSt]; · iexact pSt
    isplitl [pRt]; · iexact pRt
    isplitl [pTt]; · iexact pTt
    iexact pCt
  imod (close_half (cvF X Wt) K false c) $$ [pSf pRf pTf pCf] with Hf
  · isplitr; · iexact HK
    isplitl [pSf]; · iexact pSf
    isplitl [pRf]; · iexact pRf
    isplitl [pTf]; · iexact pTf
    iexact pCf
  imod (close_one (cvF X Wt) K c .bar (R := 1) fun r hr => if_neg (by omega)) $$ [HB] with HB
  · isplitr; · iexact HK
    iexact HB
  imodintro
  isplitr [HO HX]
  · isplitl [HB Ht Hf]
    · isplitl [HB]; · iexact HB
      isplitl [Ht]; · iexact Ht
      iexact Hf
    isplitl [lt14 rt14 lt13 rt13 lt12 rt12 lt11 rt11]
    · iapply (buffer_back (cvF X Wt) true c)
      isplitl [lt14 rt14]; · isplitl [lt14]; · iexact lt14
                             iexact rt14
      isplitl [lt13 rt13]; · isplitl [lt13]; · iexact lt13
                             iexact rt13
      isplitl [lt12 rt12]; · isplitl [lt12]; · iexact lt12
                             iexact rt12
      isplitl [lt11]; · iexact lt11
      iexact rt11
    isplitl [lf14 rf14 lf13 rf13 lf12 rf12 lf11 rf11]
    · iapply (buffer_back (cvF X Wt) false c)
      isplitl [lf14 rf14]; · isplitl [lf14]; · iexact lf14
                             iexact rf14
      isplitl [lf13 rf13]; · isplitl [lf13]; · iexact lf13
                             iexact rf13
      isplitl [lf12 rf12]; · isplitl [lf12]; · iexact lf12
                             iexact rf12
      isplitl [lf11]; · iexact lf11
      iexact rf11
    iapply (out_join X Wt c)
    unfold both
    isplitl [vt]; · iexact vt
    iexact vf
  isplitl [HO]; · iexact HO
  iexact HX

end After

end Cert.KernelIdeal.RingProof

end
-- ==== Proof.Run.lean ====
module

public import proofs.«01_k».proof.Proof.Edges
public import Idealize.ShloMosaic.Lib.Pipeline.CollectiveSegs

@[expose] public section

/-!
# The run

The kernel on eight devices, from any memory with the counters at zero: every execution ends, the arguments are
unchanged, every counter is back at zero, and the result array of each device holds the sixteen parts.
-/

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- A device's columns of `x`, in its fast memory. -/
def xs (c : Dev nD) : (cc0_stg0_0 : Ref sig .tc).ty.Contents (Elt F) := (win0_0.blk t0_0).view.read (Elt F) (m ((c : Thread nD τ).loc main_arg0))
/-- A device's rows of the weights, in its fast memory. -/
def ws (c : Dev nD) : (cc0_stg1_0 : Ref sig .tc).ty.Contents (Elt F) := (win0_1.blk t0_0).view.read (Elt F) (m ((c : Thread nD τ).loc main_arg1))

/-- What a device is dealt. -/
def dealt (c : Dev nD) : sProp 𝕄 :=
  iprop(∃ K, known (cvF (xs m) (ws m)) K ∗ places c ∗ payToks c ∗ credsIn c ∗ (((c : Thread nD τ).loc main_v1) ↦{fullShare} m ((c : Thread nD τ).loc main_v1)))

/-- Before the kernel. -/
def Φ₀ (c : Dev nD) : sProp 𝕄 := iprop(dealt m c ∗ buffer true c ∗ buffer false c)
/-- After it. -/
def Φ₁ (c : Dev nD) : sProp 𝕄 := done (xs m) (ws m) c

/-- The stages of the kernel, device by device. -/
def dats (_ : Fin 1) (c : Dev nD) : Dat τ (Elt F) ℕ ℕ UU ℕ cfg0 c where
  A w := m ((cfg0.win w).arr.view.loc (c : Thread nD τ))
  after w _ := match w with
    | ⟨0, _⟩ => xs m c
    | ⟨1, _⟩ => ws m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body -/

/-- One staged input at contents `v`. -/
abbrev stg (c : Dev nD) (b : Ref sig .tc) (v : b.ty.Contents (Elt F)) : sProp 𝕄 :=
  iprop(∃ f : Buf (Elt F) ((c : Thread nD τ).loc b), ⌜f = v⌝ ∗ (((c : Thread nD τ).loc b) ↦{fullShare} f))

/-- What the body is entered with. -/
def bodyPre (c : Dev nD) : sProp 𝕄 :=
  iprop(Φ₀ m c ∗ (dats m 0 c).owesAt 0 t0_0.castSucc
    ∗ (∃ d, stg c cc0_stg0_0 ((dats m 0 c).before (0 : Fin 2) t0_0 d)) ∗ (∃ d, stg c cc0_stg1_0 ((dats m 0 c).before (1 : Fin 2) t0_0 d)))
/-- What it must leave. -/
def bodyPost (c : Dev nD) : sProp 𝕄 :=
  iprop(Φ₁ m c ∗ (dats m 0 c).owesAt 0 t0_0.succ ∗ stg c cc0_stg0_0 (xs m c) ∗ stg c cc0_stg1_0 (ws m c))

/-- The staged columns are the device's. -/
theorem before_x (c : Dev nD) (d) : (dats m 0 c).before (0 : Fin 2) t0_0 d = xs m c := by
  unfold Dat.before; rw [if_pos (fetch0_0 t0_0)]; rfl
/-- The staged rows are the device's. -/
theorem before_w (c : Dev nD) (d) : (dats m 0 c).before (1 : Fin 2) t0_0 d = ws m c := by
  unfold Dat.before; rw [if_pos (fetch0_1 t0_0)]; rfl

/-- What the body is entered with is what it needs. -/
theorem pre_in (c : Dev nD) : bodyPre m c ⊢ iprop(∃ K, bodyIn (xs m) (ws m) K c) := by
  unfold bodyPre Φ₀ dealt Dat.owesAt Pipeline.owesWithin
  rw [show (dats m 0 c).owed t0_0.castSucc = O₀ c from rfl]
  iintro ⟨⟨⟨%K, HK, HP, HT, HC, Hv⟩, Ft, Ff⟩, ⟨%W, -, HO⟩, ⟨%d, %f, %hf, Hx⟩, ⟨%d', %f', %hf', Hw⟩⟩
  rw [before_x] at hf
  rw [before_w] at hf'
  subst hf
  subst hf'
  iexists K
  iapply (enter K (xs m) (ws m) c (m ((c : Thread nD τ).loc main_v1)))
  isplitl [HK]; · iexact HK
  isplitl [HP]; · iexact HP
  isplitl [HT]; · iexact HT
  isplitl [HC]; · iexact HC
  isplitl [Hv]; · iexact Hv
  isplitl [Ft]; · iexact Ft
  isplitl [Ff]; · iexact Ff
  isplitl [HO]
  · unfold due; iexists W; iexact HO
  unfold xw
  isplitl [Hx]; · iexact Hx
  iexact Hw

/-- What it ends with is what it must leave. -/
theorem out_post (K : Dev nD × CK → ℕ) (c : Dev nD) : bodyOut (xs m) (ws m) K c ⊢ |={Set.univ}=> bodyPost m c := by
  refine (leave K (xs m) (ws m) c).trans (BI.fupd_mono ?_)
  show iprop(_ ∗ _ ∗ _) ⊢ _
  unfold bodyPost Φ₁ Dat.owesAt Pipeline.owesWithin due xw
  rw [show (dats m 0 c).owed t0_0.succ = 0 from rfl]
  iintro ⟨HD, ⟨%W, HO⟩, Hx, Hw⟩
  isplitl [HD]; · iexact HD
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hw

/-- A last step after a program. -/
theorem WP_fupd (c : Dev nD) {α : Type} (p : P F α) (Q : α → sProp 𝕄) : WP c p (fun a => iprop(|={Set.univ}=> Q a)) ⊢ WP c p Q := wp_fupd _ _ _ p Q

/-- The body's run. -/
theorem body_run (c : Dev nD) : bodyPre m c ⊢ WP c (ringBody xM wM) fun _ => bodyPost m c := by
  refine BIBase.Entails.trans ?_ (WP_fupd c (ringBody xM wM) fun _ => bodyPost m c)
  iintro H
  ihave H := (pre_in m c) $$ H
  icases H with ⟨%K, H⟩
  iapply (body_spec (xs m) (ws m) K c fun _ => iprop(|={Set.univ}=> bodyPost m c))
  isplitl [H]; · iexact H
  iintro H
  iapply (out_post m K c)
  iexact H

set_option maxRecDepth 65536 in
/-- The obligation of the kernel's single point. -/
theorem body_obligation (c : Dev nD) : BodyObligation (dats m 0 c) (defs₀ (F := F)) 𝒱₀ 0 Set.univ := fun t => by
  rw [fin_N0 t]
  rw [bigSep_W0, bigSep_W0]
  simp only [owns_whole_eq]
  show bodyPre m c ⊢ WP c (cc0_body (F := F) xM (Memref.isWhole_whole _) wM (Memref.isWhole_whole _) outM (Memref.isWhole_whole _)
    (Memref.whole cc0_scratch0) (Memref.isWhole_whole _) (Memref.whole cc0_scratch1) (Memref.isWhole_whole _)
    cc0_scratch2 cc0_scratch3 cc0_scratch4 cc0_scratch5 cc0_scratch6 cc0_scratch7 cc0_scratch8 cc0_scratch9) fun _ => bodyPost m c
  have h := body_run m c
  rw [← body_eq xM (Memref.isWhole_whole _) wM (Memref.isWhole_whole _)] at h
  exact h

/-! ## The launch -/

/-- Every window's array is held whole. -/
theorem share_eq (c : Dev nD) (w : Fin cfg0.W) : (dats m 0 c).share w = fullShare := by unfold Dat.share; split <;> rfl

/-- The launch element. -/
def u₀ : UU := (initOf (Pipeline.cells cfgs cellOf_inj) (Pipeline.launchToks cfgs cellOf_inj), initOf ringCells ringToks)

/-- What a device is dealt, from what the launch gives. -/
theorem dealt_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (cvF (xs m) (ws m)) c)
      ⊢ |={Set.univ}=> iprop(dealt m c ∗ emp) := by
  rw [Pipeline.unscopedRestP_none, show (Pipeline.unscopedRest (Ix := ℕ) (Name := ℕ) (U := UU) (Lvl := ℕ) (Val := Elt F) cfg0.spec c (fun b => m ((c : Thread nD τ).loc b)) : sProp 𝕄)
    = iprop((((c : Thread nD τ).loc main_v1) ↦{fullShare} m ((c : Thread nD τ).loc main_v1))) from unscopedRest0_eq c _]
  unfold dealt G' records known
  iintro ⟨Hv, Hlev, Hcr, -, ⟨%K, ⟨HI, HR⟩, HP, HT⟩⟩
  ihave Hc := (creds (F := F) c) $$ Hcr
  imodintro
  isplitl
  · iexists K
    isplitl [HI HR Hlev]
    · isplitl [HI]; · iexact HI
      isplitl [HR]; · iexact HR
      iexact Hlev
    isplitl [HP]; · iexact HP
    isplitl [HT]; · iexact HT
    isplitl [Hc]; · iexact Hc
    iexact Hv
  · iempintro

/-- Before the kernel: with the two buffers. -/
theorem phi_in (c : Dev nD) :
    iprop(dealt m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show (Pipeline.scopedRest (Ix := ℕ) (Name := ℕ) (U := UU) (Lvl := ℕ) (Val := Elt F) cfg0.spec c : sProp 𝕄) = _ from scopedRest0_eq c,
    ← buffer_true, ← buffer_false]
  unfold Φ₀
  iintro ⟨Hs, -, Ht, Hf⟩
  isplitl [Hs]; · iexact Hs
  isplitl [Ht]; · iexact Ht
  iexact Hf

/-- After the kernel: the counters and the buffers are given back. -/
theorem phi_out (c : Dev nD) :
    (dats m 0 c).Φ (Fin.last cfg0.N)
      ⊢ iprop((unscopedSems0 c ∗ (((c : Thread nD τ).loc main_v1) ↦{fullShare} outV (xs m) (ws m))) ∗ Pipeline.ownSems0 osem c ∗ Pipeline.scopedRest cfg0.spec c) := by
  rw [show (dats m 0 c).Φ (Fin.last cfg0.N) = Φ₁ m c from rfl,
    show (Pipeline.scopedRest (Ix := ℕ) (Name := ℕ) (U := UU) (Lvl := ℕ) (Val := Elt F) cfg0.spec c : sProp 𝕄) = _ from scopedRest0_eq c,
    ← buffer_true, ← buffer_false]
  unfold Φ₁ done
  rw [← sems0_eq]
  iintro ⟨⟨Ho, Hu⟩, Ht, Hf, Hv⟩
  isplitl [Hu Hv]
  · isplitl [Hu]; · iexact Hu
    iexact Hv
  isplitl [Ho]; · iexact Ho
  isplitl [Ht]; · iexact Ht
  iexact Hf

/-- The copies of the inputs may be waited for, whatever is owed. -/
theorem waits (c : Dev nD) : (levAts L lv : sProp 𝕄) ⊢ Pipeline.cellsWaits cfgs (dats m) 0 0 c :=
  Pipeline.cellsWaits_intro cfgs (dats m) 0 0 c fun w s t =>
    mayWait 0 c _ (by decide) (by fin_cases w <;> fin_cases s <;> exact Nat.le_of_eq rfl) (by
      rcases t with ⟨_ | _, ht⟩
      · exact above_O₀ c
      · exact above_zero 0)

/-- The result array is read off what is held. -/
theorem read_out (c : Dev nD) (s' : Phys nD τ sig (Elt F)) :
    iprop((unscopedSems0 c ∗ (((c : Thread nD τ).loc main_v1) ↦{fullShare} outV (xs m) (ws m))) ∗ emp ∗ SI s')
      ⊢ |={Set.univ}=> (iprop(⌜(∀ sm : SemLoc sig, sm.isScoped .tc = false → s'.mem.sem ((c.tc : Thread nD τ), sm) = 0)
          ∧ s'.mem.mem ((c : Thread nD τ).loc main_v1) = outV (xs m) (ws m)⌝ ∗ SI s') : sProp 𝕄) := by
  iintro ⟨⟨Hu, Hv⟩, -, HSI⟩
  ihave H := (persistent_entails_right (SI_pointsTo_agree (st := s') (ℓ := (c : Thread nD τ).loc main_v1) (I := Finset.univ) (q := fullShare) (f := outV (xs m) (ws m)))) $$ [HSI Hv]
  · isplitl [HSI] <;> iassumption
  icases H with ⟨%hv, HSI, Hv⟩
  imod (Pipeline.unscopedSems0_read (X := unscopedSems0 c) (c := c) fupd_intro s') $$ [Hu HSI] with ⟨%hu, HSI⟩
  · isplitl [Hu] <;> iassumption
  imodintro
  isplitr
  · ipureintro; exact ⟨hu, funext fun i => hv i (Finset.mem_univ i)⟩
  iexact HSI

set_option maxRecDepth 8000 in
/-- Every execution ends, with the arguments unchanged, the result array of each device at the sixteen parts, and every
    counter at zero. -/
theorem run_main : θ_run defs (onTc (τ := τ) (main (F := F))) ⟨m, fun _ => 0, ρ⟩ (fun r =>
    (∀ c : Dev nD, r.2.mem ((c.tc : Thread nD τ).loc main_v1) = outV (xs m) (ws m)
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (cvF (xs m) (ws m))) (G' := G' (cvF (xs m) (ws m))) (u₀ := u₀)
    (hu₀ := by
      unfold u₀
      iintro Hu
      ihave H := (ownU_pair _ _) $$ Hu
      icases H with ⟨HP, HX⟩
      imod (fund_ring (cvF (xs m) (ws m))) $$ HX with HG
      imodintro
      isplitl [HP] <;> iassumption)
    (hglob := glob (cvF (xs m) (ws m)))
    (hA := fun _ _ => rfl) (hpf := fun _ k => k.elim0)
    (X := dealt m) (Y := fun c => iprop(unscopedSems0 c ∗ (((c : Thread nD τ).loc main_v1) ↦{fullShare} outV (xs m) (ws m)))) (Z := fun _ => iprop(emp))
    (hX := dealt_intro m ρ) (hin := phi_in m) (hout := phi_out m)
    (QY := fun c s => (∀ sm : SemLoc sig, sm.isScoped .tc = false → s.sem ((c.tc : Thread nD τ), sm) = 0)
      ∧ s.mem ((c : Thread nD τ).loc main_v1) = outV (xs m) (ws m))
    (hY := read_out m)
    (hQ := fun _ h hs => ⟨fun c => ⟨(h c).2.2.2, ((h c).1 0).trans ((dats m 0 c).arrAt_in (0 : Fin 2) rfl _),
      ((h c).1 1).trans ((dats m 0 c).arrAt_in (1 : Fin 2) rfl _)⟩, sem_eq_zero hs fun c => (h c).2.2.1⟩)

end Cert.KernelIdeal.RingProof

end
-- ==== Proof.Value.lean ====
module

public import proofs.«01_k».proof.Defs
public import proofs.«01_k».proof.Proof.Run
public import proofs.«01_k».proof.Proof.Gen.ReferenceIdeal
public import Idealize.ShloMosaic.Lib.MatmulPlain
public import Idealize.ShloMosaic.Lib.StackMember
public import Idealize.ShloMosaic.Lib.Pointwise.Sums

@[expose] public section

/-!
# The value, in exact arithmetic

Over the extended reals the seven additions that a chunk meets on its way round the ring are the sum of the eight
devices' partial products, in some order; a device's partial product contracts its own 512 columns of `x` with its
own 512 rows of the weights, so the sum is the contraction over all 4096. The activation is applied to it once, and
it is the reference's.
-/

noncomputable section

namespace Cert.KernelIdeal.RingProof

open Cert.KernelIdeal Cert.KernelIdeal.Gen
open Idealize.ShloMosaic hiding ix2 eq_ix2
open Idealize.ShloMosaic.TcCoe Idealize.ShloMosaic.ValueIdx

/-! ## One partial product -/

/-- A product of rows with the local weights, at an entry. -/
theorem mm_apply (a : Vec Ideal S256x512 .f32) (b : Vec Ideal S512x2048 .f32) (r : Fin 256) (q : Fin 2048) :
    mm a b (ix2 r q) = ∑ k : Fin 512, a (ix2 r k) * b (ix2 k q) := by
  have hd : dot_S256x512_S512x2048_S256x2048_1_0_0_1_n_n = DotDims.plain 256 512 2048 := rfl
  unfold mm k0_pay4
  simp only [matmul, shapeCast_self, hd]
  rw [Ideal.matmul_plain_apply]
  simp [Ideal.ofBits_zero_f32, constant_apply]

variable (X : Dev nD → FVec Ideal S4096x512 .f32) (Wt : Dev nD → FVec Ideal S512x2048 .f32)

/-- The whole row that a direction's half of a chunk has at its row `r`. -/
def rowOf (δ : Bool) (j : Fin 8) (r : Fin 256) : Fin 4096 :=
  ⟨512 * j.val + (if δ then 0 else 256) + r.val, by have := j.isLt; have := r.isLt; split <;> omega⟩

/-- A device's partial product of half a chunk, at an entry. -/
theorem prod_apply (δ : Bool) (c : Dev nD) (j : Fin 8) (r : Fin 256) (q : Fin 2048) :
    prod (F := Ideal) X Wt δ c j (ix2 r q) = ∑ k : Fin 512, (X c (ix2 (rowOf δ j r) k) * Wt c (ix2 k q) : EReal) := by
  unfold prod
  rw [mm_apply]
  refine Finset.sum_congr rfl fun k _ => ?_
  congr 1
  show X c _ = X c _
  congr 1
  funext a
  apply Fin.ext
  match a with
  | ⟨0, _⟩ => show 512 * j.val + (if δ then 0 else 256) + 1 * r.val = 512 * j.val + (if δ then 0 else 256) + r.val; omega
  | ⟨1, _⟩ => show 0 + 1 * k.val = k.val; omega

/-! ## The sum round the ring -/

/-- Before its activation a chunk is the sum of the partial products of the devices it has met. -/
theorem cvR_sum (δ : Bool) (y : S256x2048.Idx) (h : ℕ) (hh : h < 7) (c : Dev nD) :
    (cvR (F := Ideal) X Wt δ h c y : EReal) = ∑ i ∈ Finset.range (h + 1), (prod (F := Ideal) X Wt δ ((pv δ)^[i] c) (ck δ c h) y : EReal) := by
  induction h generalizing c with
  | zero => simp [cvR]
  | succ h ih =>
    have e : cvR (F := Ideal) X Wt δ (h + 1) c = addf (cvR (F := Ideal) X Wt δ h (pv δ c)) (prod (F := Ideal) X Wt δ c (ck δ c (h + 1))) := by
      rw [cvR, if_pos (show h < 7 by omega), fin, if_neg (show h ≠ 6 by omega)]
    rw [e, Finset.sum_range_succ']
    show (cvR (F := Ideal) X Wt δ h (pv δ c) y : EReal) + prod (F := Ideal) X Wt δ c (ck δ c (h + 1)) y = _
    rw [ih (by omega), ck_pv]
    rfl

/-- Eight steps back round the ring meet every device once. -/
theorem round_all (δ : Bool) (c : Dev nD) (f : Dev nD → EReal) :
    ∑ i ∈ Finset.range 8, f ((pv δ)^[i] c) = ∑ d, f d := by
  rw [← Fin.sum_univ_eq_sum_range (fun i => f ((pv δ)^[i] c)) 8]
  refine Fintype.sum_bijective (fun i : Fin 8 => (pv δ)^[i.val] c) ?_ _ _ fun _ => rfl
  revert δ c; decide

/-- A finished half of a chunk is the activation of the sum over the devices. -/
theorem res_sum (δ : Bool) (j : Fin 8) :
    res (F := Ideal) X Wt δ j = gel (F := Ideal) (fun y => (∑ d : Dev nD, (prod (F := Ideal) X Wt δ d j y : EReal) : EReal)) := by
  have hj : ck δ (pv δ j) 7 = j := by revert δ j; decide
  unfold res cvF
  rw [cvR, if_pos (by decide), fin, if_pos rfl]
  congr 1
  funext y
  show (cvR (F := Ideal) X Wt δ 6 (pv δ (pv δ j)) y : EReal) + prod (F := Ideal) X Wt δ (pv δ j) (ck δ (pv δ j) 7) y = _
  rw [cvR_sum X Wt δ y 6 (by decide), ck_pv, hj, ← round_all δ (pv δ j), Finset.sum_range_succ' _ 7]
  rfl

/-! ## Against the whole arrays -/

/-- The activation at an entry, its cube gathered as the reference has it: the products are regrouped. -/
theorem gel_apply (v : FVec Ideal S256x2048 .f32) (y : S256x2048.Idx) :
    gel v y = (FloatOps.ofBits .f32 0x3F000000#32 : Ideal .f32) * v y * ((FloatOps.ofBits .f32 0x3F800000#32 : Ideal .f32)
      + Ideal.tanh ((FloatOps.ofBits .f32 0x3F4C422A#32 : Ideal .f32) * (v y + (FloatOps.ofBits .f32 0x3D372713#32 : Ideal .f32) * (v y * v y * v y)))) := by
  rw [← mul_assoc (FloatOps.ofBits .f32 0x3D372713#32 : Ideal .f32), ← mul_assoc (FloatOps.ofBits .f32 0x3D372713#32 : Ideal .f32)]
  rfl

/-- Every row of the result is a row of half a chunk, and there the result is what that half was finished at. -/
theorem outV_at (p : Fin 4096) (q : Fin 2048) :
    ∃ (δ : Bool) (j : Fin 8) (r : Fin 256), rowOf δ j r = p ∧ outV (F := Ideal) X Wt (ix2 p q) = res (F := Ideal) X Wt δ j (ix2 r q) := by
  refine ⟨decide (p.val % 512 < 256), ⟨p.val / 512, by omega⟩, ⟨p.val % 256, Nat.mod_lt _ (by decide)⟩, ?_, ?_⟩
  · apply Fin.ext
    show 512 * (p.val / 512) + (if decide (p.val % 512 < 256) = true then 0 else 256) + p.val % 256 = p.val
    by_cases h : p.val % 512 < 256 <;> simp only [h, decide_true, decide_false, if_true, if_false, Bool.false_eq_true] <;> omega
  · unfold outV
    congr 1
    funext a
    match a with
    | ⟨0, _⟩ => rfl
    | ⟨1, _⟩ => rfl

variable (m : (ℓ : Loc nD τ sig) → Buf (Elt Ideal) ℓ)

/-- What a device stages of `x` is its whole argument. -/
theorem xs_eq (c : Dev nD) : xs m c = m ((c : Thread nD τ).loc main_arg0) :=
  Memref.read_access_unit_zero (Elt Ideal) main_arg0 (funext fun a => by fin_cases a <;> decide) (fun a => by fin_cases a <;> decide) _

/-- What a device stages of the weights is its whole argument. -/
theorem ws_eq (c : Dev nD) : ws m c = m ((c : Thread nD τ).loc main_arg1) :=
  Memref.read_access_unit_zero (Elt Ideal) main_arg1 (funext fun a => by fin_cases a <;> decide) (fun a => by fin_cases a <;> decide) _

variable (A : FVec Ideal ⟨2, ![4096, 4096]⟩ .f32) (B : FVec Ideal ⟨2, ![4096, 2048]⟩ .f32)

/-- The devices' partial products add up to the product of the whole arrays. -/
theorem sum_whole (hA : ∀ c : Dev nD, X c = Layout.block ⟨2, ![4096, 512]⟩ ⟨2, ![4096, 4096]⟩ 1 8 c A)
    (hB : ∀ c : Dev nD, Wt c = Layout.block ⟨2, ![512, 2048]⟩ ⟨2, ![4096, 2048]⟩ 0 8 c B)
    (δ : Bool) (j : Fin 8) (r : Fin 256) (q : Fin 2048) :
    (∑ d : Dev nD, (prod (F := Ideal) X Wt δ d j (ix2 r q) : EReal)) = ∑ k : Fin 4096, A (ix2 (rowOf δ j r) k) * B (ix2 k q) := by
  rw [Fin.sum_univ_tiles 8 512 rfl]
  refine Finset.sum_congr rfl fun d _ => ?_
  rw [prod_apply]
  refine Finset.sum_congr rfl fun k _ => ?_
  rw [hA d, hB d]
  refine congrArg₂ (fun a b : EReal => a * b) (congrArg A ?_) (congrArg B ?_)
  · funext a
    match a with
    | ⟨0, _⟩ => rfl
    | ⟨1, _⟩ => rfl
  · funext a
    match a with
    | ⟨0, _⟩ => rfl
    | ⟨1, _⟩ => rfl

/-- The product of the whole arrays, as the reference has it. -/
abbrev whole : FVec Ideal Cert.ReferenceIdeal.S4096x2048 .f32 :=
  Host.dotGeneral Cert.ReferenceIdeal.dot_S4096x4096_S4096x2048_S4096x2048_1_0_0_1_n_n none A B

/-- The reference's result. -/
def refV : FVec Ideal Cert.ReferenceIdeal.S4096x2048 .f32 := fun i =>
  (FloatOps.ofBits .f32 0x3F000000#32 : Ideal .f32) * whole A B i * ((FloatOps.ofBits .f32 0x3F800000#32 : Ideal .f32)
    + Ideal.tanh ((FloatOps.ofBits .f32 0x3F4C422A#32 : Ideal .f32)
      * (whole A B i + (FloatOps.ofBits .f32 0x3D372713#32 : Ideal .f32) * (whole A B i * whole A B i * whole A B i))))

/-- The product, at an entry. -/
theorem whole_apply (p : Fin 4096) (q : Fin 2048) : whole A B (ix2 p q) = ∑ k : Fin 4096, A (ix2 p k) * B (ix2 k q) := by
  have hd : Cert.ReferenceIdeal.dot_S4096x4096_S4096x2048_S4096x2048_1_0_0_1_n_n = DotDims.plain 4096 4096 2048 := rfl
  unfold whole
  rw [hd, StackMember.dotGeneral_plain_apply]

/-- The kernel's result is the reference's. -/
theorem value (hA : ∀ c : Dev nD, X c = Layout.block ⟨2, ![4096, 512]⟩ ⟨2, ![4096, 4096]⟩ 1 8 c A)
    (hB : ∀ c : Dev nD, Wt c = Layout.block ⟨2, ![512, 2048]⟩ ⟨2, ![4096, 2048]⟩ 0 8 c B) : outV (F := Ideal) X Wt = refV A B := by
  funext (i : S4096x2048.Idx)
  obtain ⟨p, q, rfl⟩ : ∃ (p : Fin 4096) (q : Fin 2048), i = ix2 p q := ⟨i 0, i 1, eq_ix2 i⟩
  obtain ⟨δ, j, r, hp, ho⟩ := outV_at X Wt p q
  rw [ho, res_sum, gel_apply, sum_whole X Wt A B hA hB, hp, ← whole_apply]
  rfl

end Cert.KernelIdeal.RingProof

end
-- ==== Proof.lean ====
/-
  The claims about the fused matrix product, ring all-reduce and gelu on eight devices. The run is Proof/Run.lean's
  `run_main`, at any float values: at bit-exact floats it gives the claim about the kernel as printed, at exact
  values the claims about the idealized one.
-/
module

public import proofs.«01_k».proof.Defs
public import proofs.«01_k».proof.Proof.Run
public import proofs.«01_k».proof.Proof.Value
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem

/-- The run, of which only the arguments and the counters are kept. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.KernelIdeal.RingProof.run_main m ρ)

/-- The kernel as printed has the idealized one's body, read at bit-exact floats. -/
theorem body_same : Cert.Kernel.cc0_body (F := Bits) = Cert.KernelIdeal.cc0_body (F := Bits) := rfl

/-- So the two tables of kernel bodies are one. -/
theorem table_same : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) =>
    show Cert.Kernel.cc0_body (F := Bits) _ _ _ _ _ _ _ _ _ _ _ _ _ _ _ _ _ _ = _
    rw [body_same]
  | ⟨_ + 1, h⟩, _ => exact absurd h (Nat.not_lt.2 (Nat.le_add_left _ _))

/-- And the two whole tables. -/
theorem defs_same : Cert.Kernel.defs (F := Bits) = Cert.KernelIdeal.defs (F := Bits) :=
  congrArg (Pipeline.defs Cert.KernelIdeal.pcfgs) table_same

/-- The kernel as printed ends, with its arguments unchanged and every counter at zero. -/
theorem frame_kernel : Cert.quiescent_Kernel := fun m ρ _ => by
  have h := frame_any (F := Bits) m ρ
  rw [← defs_same] at h
  exact h

/-- So does the idealized one. -/
theorem frame_ideal : Cert.quiescent_KernelIdeal := fun m ρ _ => frame_any (F := Ideal) m ρ

/-- The reference is a straight line of host operations, with no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized kernel is the printed one, no operation replaced. -/
theorem preserves_kernel : Cert.preserves_Kernel_KernelIdeal := trivial

/-- In exact arithmetic, every device of the kernel ends with the reference's result of the whole arrays. -/
theorem algebraic_kernel : Cert.algebraic_KernelIdeal_ReferenceIdeal := fun m g m' g' _ hag => by
  refine ⟨Cert.KernelIdeal.RingProof.refV (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun _ h c => ⟨(h.1 c).1.trans ?_, (h.1 c).2⟩)
      (Cert.KernelIdeal.RingProof.run_main (F := Ideal) m g)
    exact Cert.KernelIdeal.RingProof.value _ _ _ _
      (fun c => (Cert.KernelIdeal.RingProof.xs_eq m c).trans (hag c).1) (fun c => (Cert.KernelIdeal.RingProof.ws_eq m c).trans (hag c).2)
  · exact (θ_run Cert.ReferenceIdeal.defs _ _).mono (fun _ h => ⟨(h 0).1.trans rfl, (h 0).2⟩)
      (Cert.ReferenceIdeal.Value.run (F := Ideal) m' g')

/-- The five claims. -/
theorem claim : Cert.Claim :=
  ⟨Cert.Kernel.Gen.facts, Cert.KernelIdeal.Gen.facts, Cert.ReferenceIdeal.Gen.facts,
    frame_kernel, frame_ideal, frame_reference, preserves_kernel, algebraic_kernel⟩

end Cert.Proof

end
